-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x384x1280 : Shape := ⟨3, ![1, 384, 1280]⟩
abbrev S30336x1280 : Shape := ⟨2, ![30336, 1280]⟩
abbrev S30336x40 : Shape := ⟨2, ![30336, 40]⟩
abbrev S_ : Shape := ⟨0, ![]⟩
abbrev S384x10x128 : Shape := ⟨3, ![384, 10, 128]⟩
abbrev S384x10 : Shape := ⟨2, ![384, 10]⟩

class Facts : Prop where
  bcast_S_S1x384x1280 : S_.BroadcastsInDim S1x384x1280 (![] : Fin 0 → Fin S1x384x1280.rank)
  bitsLt_bf16_f32 : FTy.bits .bf16 < FTy.bits .f32
  shapeCasts_S1x384x1280_S384x10x128 : S1x384x1280.ShapeCasts S384x10x128
  reducesTo_S384x10x128_S384x10_d2 : S384x10x128.ReducesTo [2] S384x10
  h_S_ : 0 < S_.numel
  bcast_S_S384x10 : S_.BroadcastsInDim S384x10 (![] : Fin 0 → Fin S384x10.rank)
  bcast_S_S30336x40 : S_.BroadcastsInDim S30336x40 (![] : Fin 0 → Fin S30336x40.rank)

variable [Facts]

def fn_part1 {F : FTy → Type} [FloatOps F] (main_arg2 : IVec S30336x40 8) (main_v2 : IVec S1x384x1280 1) (main_v13 : IVec S384x10 1) (main_v15 : IVec S30336x40 1) (main_v16 : IVec S30336x40 8) : IVec S1x384x1280 1 × IVec S384x10 1 × IVec S30336x40 1 :=
  let main_v17 : IVec S30336x40 1 := cmpi .ule main_arg2 main_v16
  let main_v18 : IVec S30336x40 1 := andi main_v15 main_v17
  (main_v2, main_v13, main_v18)

def fn {F : FTy → Type} [FloatOps F] (main_arg0 : FVec F S1x384x1280 .bf16) (main_arg1 : FVec F S30336x1280 .fp8e4m3) (main_arg2 : IVec S30336x40 8) : IVec S1x384x1280 1 × IVec S384x10 1 × IVec S30336x40 1 :=
  let main_v0 : FVec F S1x384x1280 .bf16 := Host.absf main_arg0
  let main_cst : FVec F S_ .bf16 := constant S_ .bf16 0x7F7F#16
  let main_v1 : FVec F S1x384x1280 .bf16 := broadcastInDim S1x384x1280 ![] bcast_S_S1x384x1280 main_cst
  let main_v2 : IVec S1x384x1280 1 := cmpf .ole main_v0 main_v1
  let main_v3 : FVec F S1x384x1280 .f32 := (extf .f32 · bitsLt_bf16_f32) main_arg0
  let main_v4 : FVec F S384x10x128 .f32 := shapeCast S384x10x128 main_v3 shapeCasts_S1x384x1280_S384x10x128
  let main_v5 : FVec F S384x10x128 .f32 := Host.absf main_v4
  let main_cst_0 : FVec F S_ .f32 := constant S_ .f32 0xFF800000#32
  let main_v6 : FVec F S384x10 .f32 := (fun x v => Host.reduce FloatOps.maximumf x v reducesTo_S384x10x128_S384x10_d2 h_S_) main_v5 main_cst_0
  let main_cst_1 : FVec F S_ .f32 := constant S_ .f32 0x00000000#32
  let main_v7 : FVec F S384x10 .f32 := broadcastInDim S384x10 ![] bcast_S_S384x10 main_cst_1
  let main_v8 : IVec S384x10 1 := cmpf .oeq main_v6 main_v7
  let main_cst_2 : FVec F S_ .f32 := constant S_ .f32 0x3B124925#32
  let main_v9 : FVec F S384x10 .f32 := broadcastInDim S384x10 ![] bcast_S_S384x10 main_cst_2
  let main_v10 : FVec F S384x10 .f32 := mulf main_v6 main_v9
  let main_cst_3 : FVec F S_ .f32 := constant S_ .f32 0x00800000#32
  let main_v11 : FVec F S384x10 .f32 := broadcastInDim S384x10 ![] bcast_S_S384x10 main_cst_3
  let main_v12 : IVec S384x10 1 := cmpf .oge main_v10 main_v11
  let main_v13 : IVec S384x10 1 := ori main_v8 main_v12
  let main_c : IVec S_ 8 := constantI S_ 8 1#8
  let main_v14 : IVec S30336x40 8 := broadcastInDim S30336x40 ![] bcast_S_S30336x40 main_c
  let main_v15 : IVec S30336x40 1 := cmpi .uge main_arg2 main_v14
  let main_c_4 : IVec S_ 8 := constantI S_ 8 254#8
  let main_v16 : IVec S30336x40 8 := broadcastInDim S30336x40 ![] bcast_S_S30336x40 main_c_4
  fn_part1 (F := F) main_arg2 main_v2 main_v13 main_v15 main_v16
-- ==== Kernel.lean ====
abbrev S1x384x1280 : Shape := ⟨3, ![1, 384, 1280]⟩
abbrev S30336x1280 : Shape := ⟨2, ![30336, 1280]⟩
abbrev S30336x40 : Shape := ⟨2, ![30336, 40]⟩
abbrev S384x1280 : Shape := ⟨2, ![384, 1280]⟩
abbrev S384x30336 : Shape := ⟨2, ![384, 30336]⟩
abbrev S384x10 : Shape := ⟨2, ![384, 10]⟩
abbrev S1792x1280 : Shape := ⟨2, ![1792, 1280]⟩
abbrev S1792x128 : Shape := ⟨2, ![1792, 128]⟩
abbrev S384x1792 : Shape := ⟨2, ![384, 1792]⟩
abbrev S384x128 : Shape := ⟨2, ![384, 128]⟩
abbrev S384 : Shape := ⟨1, ![384]⟩
abbrev S384x1 : Shape := ⟨2, ![384, 1]⟩
abbrev S384x256 : Shape := ⟨2, ![384, 256]⟩
abbrev S896x128 : Shape := ⟨2, ![896, 128]⟩
abbrev S896x128x1 : Shape := ⟨3, ![896, 128, 1]⟩
abbrev S1x384x30336 : Shape := ⟨3, ![1, 384, 30336]⟩
abbrev S1x384x10 : Shape := ⟨3, ![1, 384, 10]⟩

abbrev nBuf : Space → Nat
  | .hbm => 10
  | .vmem => 11
  | .smem => 0
  | _ => 0

abbrev bufTy : (tb : Table) → Fin (tcTables nBuf tb) → BufTy
  | .hbm, ⟨0, _⟩ => ⟨S1x384x1280, .bf16⟩
  | .hbm, ⟨1, _⟩ => ⟨S30336x1280, .fp8e4m3⟩
  | .hbm, ⟨2, _⟩ => ⟨S30336x40, .i8⟩
  | .hbm, ⟨3, _⟩ => ⟨S384x1280, .bf16⟩
  | .hbm, ⟨4, _⟩ => ⟨S384x30336, .bf16⟩
  | .hbm, ⟨5, _⟩ => ⟨S384x1280, .fp8e4m3⟩
  | .hbm, ⟨6, _⟩ => ⟨S384x10, .f32⟩
  | .hbm, ⟨7, _⟩ => ⟨S1x384x30336, .bf16⟩
  | .hbm, ⟨8, _⟩ => ⟨S1x384x1280, .fp8e4m3⟩
  | .hbm, ⟨9, _⟩ => ⟨S1x384x10, .f32⟩
  | .local _ .vmem, ⟨0, _⟩ => ⟨S384x1280, .bf16⟩
  | .local _ .vmem, ⟨1, _⟩ => ⟨S1792x1280, .fp8e4m3⟩
  | .local _ .vmem, ⟨2, _⟩ => ⟨S1792x1280, .fp8e4m3⟩
  | .local _ .vmem, ⟨3, _⟩ => ⟨S1792x128, .i8⟩
  | .local _ .vmem, ⟨4, _⟩ => ⟨S1792x128, .i8⟩
  | .local _ .vmem, ⟨5, _⟩ => ⟨S384x1792, .bf16⟩
  | .local _ .vmem, ⟨6, _⟩ => ⟨S384x1792, .bf16⟩
  | .local _ .vmem, ⟨7, _⟩ => ⟨S384x1280, .fp8e4m3⟩
  | .local _ .vmem, ⟨8, _⟩ => ⟨S384x10, .f32⟩
  | .local _ .vmem, ⟨9, _⟩ => ⟨S384x1280, .bf16⟩
  | .local _ .vmem, ⟨10, _⟩ => ⟨S1792x1280, .bf16⟩
  | _, _ => ⟨S1x384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x384x1280 : Shape := ⟨3, ![1, 384, 1280]⟩
abbrev S30336x1280 : Shape := ⟨2, ![30336, 1280]⟩
abbrev S30336x40 : Shape := ⟨2, ![30336, 40]⟩
abbrev S384x1280 : Shape := ⟨2, ![384, 1280]⟩
abbrev S384x30336 : Shape := ⟨2, ![384, 30336]⟩
abbrev S384x10 : Shape := ⟨2, ![384, 10]⟩
abbrev S384x10x128 : Shape := ⟨3, ![384, 10, 128]⟩
abbrev S384x10x1 : Shape := ⟨3, ![384, 10, 1]⟩
abbrev S30336x40x32 : Shape := ⟨3, ![30336, 40, 32]⟩
abbrev S30336x40x1 : Shape := ⟨3, ![30336, 40, 1]⟩
abbrev S1x384x30336 : Shape := ⟨3, ![1, 384, 30336]⟩
abbrev S1x384x10 : Shape := ⟨3, ![1, 384, 10]⟩

abbrev nBuf : Space → Nat
  | .hbm => 10
  | .vmem => 6
  | .smem => 0
  | _ => 0

abbrev bufTy : (tb : Table) → Fin (tcTables nBuf tb) → BufTy
  | .hbm, ⟨0, _⟩ => ⟨S1x384x1280, .bf16⟩
  | .hbm, ⟨1, _⟩ => ⟨S30336x1280, .fp8e4m3⟩
  | .hbm, ⟨2, _⟩ => ⟨S30336x40, .i8⟩
  | .hbm, ⟨3, _⟩ => ⟨S384x1280, .bf16⟩
  | .hbm, ⟨4, _⟩ => ⟨S384x30336, .bf16⟩
  | .hbm, ⟨5, _⟩ => ⟨S384x1280, .fp8e4m3⟩
  | .hbm, ⟨6, _⟩ => ⟨S384x10, .f32⟩
  | .hbm, ⟨7, _⟩ => ⟨S1x384x30336, .bf16⟩
  | .hbm, ⟨8, _⟩ => ⟨S1x384x1280, .fp8e4m3⟩
  | .hbm, ⟨9, _⟩ => ⟨S1x384x10, .f32⟩
  | .local _ .vmem, ⟨0, _⟩ => ⟨S384x1280, .bf16⟩
  | .local _ .vmem, ⟨1, _⟩ => ⟨S30336x1280, .fp8e4m3⟩
  | .local _ .vmem, ⟨2, _⟩ => ⟨S30336x40, .i8⟩
  | .local _ .vmem, ⟨3, _⟩ => ⟨S384x30336, .bf16⟩
  | .local _ .vmem, ⟨4, _⟩ => ⟨S384x1280, .fp8e4m3⟩
  | .local _ .vmem, ⟨5, _⟩ => ⟨S384x10, .f32⟩
  | _, _ => ⟨S1x384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S384x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30336x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30336x40 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x30336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelTiles.lean ====
module

public import proofs.«01_k».proof.Proof.Gen.Kernel.Frame
public import proofs.«01_k».proof.Proof.Gen.Kernel.Skeleton
public import Idealize.ShloMosaic.Lib.Pipeline.FrameBody
public import Idealize.ShloMosaic.Lib.Pipeline.ValueKit.Tiles
public import Idealize.ShloMosaic.Lib.Ring
public import Idealize.ShloMosaic.Lib.Tactic

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # What one grid point leaves in the blocks, as functions of the blocks it reads

The columns of the activation and of the weight come in ten groups of 128 lanes. Each buffer the kernel fills is ten
tiles, one per group; here are the tile functions (the same for all ten groups, up to the group's number) and the
buffers they make. -/

/-- The dequantised activation of one group of 128 columns: codes times scale. -/
def xwTile (x : Vec F S384x128 .bf16) : FVec F S384x128 .bf16 := k0_pay7 (k0_pay5 x) (k0_pay6 x)

/-- The column of the scale block (40 columns, held in 128 lanes) that lane `l` of a weight tile reads: `l / 32 + c`. -/
def scaleLane (c : BitVec 32) : IVec S896x128 32 :=
  have v8 : IVec S896x128 32 := iota .tc S896x128 32 [1] iota_S896x128_d1_w32
  have v50 : IVec S896x128 32 := broadcast S896x128 32#32
  have v51 : IVec S896x128 32 := divsi v8 v50
  have v52 : IVec S896x128 32 := broadcast S896x128 0#32
  have v53 : IVec S896x128 1 := cmpi .sgt v8 v52
  have v54 : IVec S896x128 32 := extui 32 v53 natLt_1_32
  have v55 : IVec S896x128 32 := broadcast S896x128 0#32
  have v56 : IVec S896x128 1 := cmpi .slt v8 v55
  have v57 : IVec S896x128 32 := extui 32 v56 natLt_1_32
  have v58 : IVec S896x128 32 := subi v54 v57
  let v59 : BitVec 1 := Scalar.cmpi .sgt 32#32 0#32
  let v60 : BitVec 32 := Scalar.extui v59
  let v61 : BitVec 1 := Scalar.cmpi .slt 32#32 0#32
  let v62 : BitVec 32 := Scalar.extui v61
  let v63 : BitVec 32 := Scalar.subi v60 v62
  have v64 : IVec S896x128 32 := broadcast S896x128 v63
  have v65 : IVec S896x128 1 := cmpi .ne v58 v64
  have v66 : IVec S896x128 32 := broadcast S896x128 32#32
  have v67 : IVec S896x128 32 := remsi v8 v66
  have v68 : IVec S896x128 32 := broadcast S896x128 0#32
  have v69 : IVec S896x128 1 := cmpi .ne v67 v68
  have v70 : IVec S896x128 1 := andi v65 v69
  have v71 : IVec S896x128 32 := broadcast S896x128 1#32
  have v72 : IVec S896x128 32 := subi v51 v71
  have v73 : IVec S896x128 32 := select v70 v72 v51
  have v74 : IVec S896x128 32 := broadcast S896x128 c
  have v75 : IVec S896x128 32 := addi v73 v74
  have v76 : IVec S896x128 32 := broadcast S896x128 0#32
  have v77 : IVec S896x128 1 := cmpi .slt v75 v76
  have v78 : IVec S896x128 32 := broadcast S896x128 128#32
  have v79 : IVec S896x128 32 := addi v75 v78
  select v77 v79 v75

/-- The scales of one weight tile, one per element: the scale bytes widened to 16 bits and shifted to the exponent
    place, gathered along the lanes as 32-bit pairs, read as bf16. -/
def sTile (c : BitVec 32) (s : Vec F S1792x128 .i8) : FVec F S1792x128 .bf16 :=
  have v81 : IVec S896x128x1 32 := shapeCast S896x128x1 (scaleLane c) shapeCasts_S896x128_S896x128x1
  have v82 : IVec S896x128 32 := shapeCast S896x128 v81 shapeCasts_S896x128x1_S896x128
  have v83 : IVec S896x128 32 := dynamicGather 1 (k0_pay70 s) v82
  bitcastToFloat .bf16 (bitcast S1792x128 16 v83 bitcasts_S896x128_w32_S1792x128_w16)

/-- One tile of the dequantised weight: codes times scales. -/
def wTile (c : BitVec 32) (s : Vec F S1792x128 .i8) (w : Vec F S1792x128 .fp8e4m3) : FVec F S1792x128 .bf16 :=
  shapeCast S1792x128 (mulf (extf .bf16 w bitsLt_fp8e4m3_bf16) (sTile c s)) shapeCasts_S1792x128_S1792x128

/-- The codes of the whole activation block. -/
def codesBlk (x : Vec F S384x1280 .bf16) : Vec F S384x1280 .fp8e4m3 := View.canon
  [ ⟨(Rect.unit (s := S384x1280) ![0, 1152] S384x128.size inb_S384x1280_S384x128_0_1152), k0_pay6 (View.ld x (Rect.unit (s := S384x1280) ![0, 1152] S384x128.size inb_S384x1280_S384x128_0_1152))⟩,
    ⟨(Rect.unit (s := S384x1280) ![0, 1024] S384x128.size inb_S384x1280_S384x128_0_1024), k0_pay6 (View.ld x (Rect.unit (s := S384x1280) ![0, 1024] S384x128.size inb_S384x1280_S384x128_0_1024))⟩,
    ⟨(Rect.unit (s := S384x1280) ![0, 896] S384x128.size inb_S384x1280_S384x128_0_896), k0_pay6 (View.ld x (Rect.unit (s := S384x1280) ![0, 896] S384x128.size inb_S384x1280_S384x128_0_896))⟩,
    ⟨(Rect.unit (s := S384x1280) ![0, 768] S384x128.size inb_S384x1280_S384x128_0_768), k0_pay6 (View.ld x (Rect.unit (s := S384x1280) ![0, 768] S384x128.size inb_S384x1280_S384x128_0_768))⟩,
    ⟨(Rect.unit (s := S384x1280) ![0, 640] S384x128.size inb_S384x1280_S384x128_0_640), k0_pay6 (View.ld x (Rect.unit (s := S384x1280) ![0, 640] S384x128.size inb_S384x1280_S384x128_0_640))⟩,
    ⟨(Rect.unit (s := S384x1280) ![0, 512] S384x128.size inb_S384x1280_S384x128_0_512), k0_pay6 (View.ld x (Rect.unit (s := S384x1280) ![0, 512] S384x128.size inb_S384x1280_S384x128_0_512))⟩,
    ⟨(Rect.unit (s := S384x1280) ![0, 384] S384x128.size inb_S384x1280_S384x128_0_384), k0_pay6 (View.ld x (Rect.unit (s := S384x1280) ![0, 384] S384x128.size inb_S384x1280_S384x128_0_384))⟩,
    ⟨(Rect.unit (s := S384x1280) ![0, 256] S384x128.size inb_S384x1280_S384x128_0_256), k0_pay6 (View.ld x (Rect.unit (s := S384x1280) ![0, 256] S384x128.size inb_S384x1280_S384x128_0_256))⟩,
    ⟨(Rect.unit (s := S384x1280) ![0, 128] S384x128.size inb_S384x1280_S384x128_0_128), k0_pay6 (View.ld x (Rect.unit (s := S384x1280) ![0, 128] S384x128.size inb_S384x1280_S384x128_0_128))⟩,
    ⟨(Rect.unit (s := S384x1280) ![0, 0] S384x128.size inb_S384x1280_S384x128_0_0), k0_pay6 (View.ld x (Rect.unit (s := S384x1280) ![0, 0] S384x128.size inb_S384x1280_S384x128_0_0))⟩]

/-- The scales of the whole activation block, one per row and group. -/
def scaleBlk (x : Vec F S384x1280 .bf16) : Vec F S384x10 .f32 := View.canon
  [ ⟨(Rect.unit (s := S384x10) ![0, 9] S384x1.size inb_S384x10_S384x1_0_9), k0_pay5 (View.ld x (Rect.unit (s := S384x1280) ![0, 1152] S384x128.size inb_S384x1280_S384x128_0_1152))⟩,
    ⟨(Rect.unit (s := S384x10) ![0, 8] S384x1.size inb_S384x10_S384x1_0_8), k0_pay5 (View.ld x (Rect.unit (s := S384x1280) ![0, 1024] S384x128.size inb_S384x1280_S384x128_0_1024))⟩,
    ⟨(Rect.unit (s := S384x10) ![0, 7] S384x1.size inb_S384x10_S384x1_0_7), k0_pay5 (View.ld x (Rect.unit (s := S384x1280) ![0, 896] S384x128.size inb_S384x1280_S384x128_0_896))⟩,
    ⟨(Rect.unit (s := S384x10) ![0, 6] S384x1.size inb_S384x10_S384x1_0_6), k0_pay5 (View.ld x (Rect.unit (s := S384x1280) ![0, 768] S384x128.size inb_S384x1280_S384x128_0_768))⟩,
    ⟨(Rect.unit (s := S384x10) ![0, 5] S384x1.size inb_S384x10_S384x1_0_5), k0_pay5 (View.ld x (Rect.unit (s := S384x1280) ![0, 640] S384x128.size inb_S384x1280_S384x128_0_640))⟩,
    ⟨(Rect.unit (s := S384x10) ![0, 4] S384x1.size inb_S384x10_S384x1_0_4), k0_pay5 (View.ld x (Rect.unit (s := S384x1280) ![0, 512] S384x128.size inb_S384x1280_S384x128_0_512))⟩,
    ⟨(Rect.unit (s := S384x10) ![0, 3] S384x1.size inb_S384x10_S384x1_0_3), k0_pay5 (View.ld x (Rect.unit (s := S384x1280) ![0, 384] S384x128.size inb_S384x1280_S384x128_0_384))⟩,
    ⟨(Rect.unit (s := S384x10) ![0, 2] S384x1.size inb_S384x10_S384x1_0_2), k0_pay5 (View.ld x (Rect.unit (s := S384x1280) ![0, 256] S384x128.size inb_S384x1280_S384x128_0_256))⟩,
    ⟨(Rect.unit (s := S384x10) ![0, 1] S384x1.size inb_S384x10_S384x1_0_1), k0_pay5 (View.ld x (Rect.unit (s := S384x1280) ![0, 128] S384x128.size inb_S384x1280_S384x128_0_128))⟩,
    ⟨(Rect.unit (s := S384x10) ![0, 0] S384x1.size inb_S384x10_S384x1_0_0), k0_pay5 (View.ld x (Rect.unit (s := S384x1280) ![0, 0] S384x128.size inb_S384x1280_S384x128_0_0))⟩]

/-- The dequantised activation block. -/
def xwBlk (x : Vec F S384x1280 .bf16) : Vec F S384x1280 .bf16 := View.canon
  [ ⟨(Rect.unit (s := S384x1280) ![0, 1152] S384x128.size inb_S384x1280_S384x128_0_1152), xwTile (View.ld x (Rect.unit (s := S384x1280) ![0, 1152] S384x128.size inb_S384x1280_S384x128_0_1152))⟩,
    ⟨(Rect.unit (s := S384x1280) ![0, 1024] S384x128.size inb_S384x1280_S384x128_0_1024), xwTile (View.ld x (Rect.unit (s := S384x1280) ![0, 1024] S384x128.size inb_S384x1280_S384x128_0_1024))⟩,
    ⟨(Rect.unit (s := S384x1280) ![0, 896] S384x128.size inb_S384x1280_S384x128_0_896), xwTile (View.ld x (Rect.unit (s := S384x1280) ![0, 896] S384x128.size inb_S384x1280_S384x128_0_896))⟩,
    ⟨(Rect.unit (s := S384x1280) ![0, 768] S384x128.size inb_S384x1280_S384x128_0_768), xwTile (View.ld x (Rect.unit (s := S384x1280) ![0, 768] S384x128.size inb_S384x1280_S384x128_0_768))⟩,
    ⟨(Rect.unit (s := S384x1280) ![0, 640] S384x128.size inb_S384x1280_S384x128_0_640), xwTile (View.ld x (Rect.unit (s := S384x1280) ![0, 640] S384x128.size inb_S384x1280_S384x128_0_640))⟩,
    ⟨(Rect.unit (s := S384x1280) ![0, 512] S384x128.size inb_S384x1280_S384x128_0_512), xwTile (View.ld x (Rect.unit (s := S384x1280) ![0, 512] S384x128.size inb_S384x1280_S384x128_0_512))⟩,
    ⟨(Rect.unit (s := S384x1280) ![0, 384] S384x128.size inb_S384x1280_S384x128_0_384), xwTile (View.ld x (Rect.unit (s := S384x1280) ![0, 384] S384x128.size inb_S384x1280_S384x128_0_384))⟩,
    ⟨(Rect.unit (s := S384x1280) ![0, 256] S384x128.size inb_S384x1280_S384x128_0_256), xwTile (View.ld x (Rect.unit (s := S384x1280) ![0, 256] S384x128.size inb_S384x1280_S384x128_0_256))⟩,
    ⟨(Rect.unit (s := S384x1280) ![0, 128] S384x128.size inb_S384x1280_S384x128_0_128), xwTile (View.ld x (Rect.unit (s := S384x1280) ![0, 128] S384x128.size inb_S384x1280_S384x128_0_128))⟩,
    ⟨(Rect.unit (s := S384x1280) ![0, 0] S384x128.size inb_S384x1280_S384x128_0_0), xwTile (View.ld x (Rect.unit (s := S384x1280) ![0, 0] S384x128.size inb_S384x1280_S384x128_0_0))⟩]

/-- The dequantised weight block. -/
def wwBlk (w : Vec F S1792x1280 .fp8e4m3) (s : Vec F S1792x128 .i8) : Vec F S1792x1280 .bf16 := View.canon
  [ ⟨(Rect.unit (s := S1792x1280) ![0, 1152] S1792x128.size inb_S1792x1280_S1792x128_0_1152), wTile 36#32 s (View.ld w (Rect.unit (s := S1792x1280) ![0, 1152] S1792x128.size inb_S1792x1280_S1792x128_0_1152))⟩,
    ⟨(Rect.unit (s := S1792x1280) ![0, 1024] S1792x128.size inb_S1792x1280_S1792x128_0_1024), wTile 32#32 s (View.ld w (Rect.unit (s := S1792x1280) ![0, 1024] S1792x128.size inb_S1792x1280_S1792x128_0_1024))⟩,
    ⟨(Rect.unit (s := S1792x1280) ![0, 896] S1792x128.size inb_S1792x1280_S1792x128_0_896), wTile 28#32 s (View.ld w (Rect.unit (s := S1792x1280) ![0, 896] S1792x128.size inb_S1792x1280_S1792x128_0_896))⟩,
    ⟨(Rect.unit (s := S1792x1280) ![0, 768] S1792x128.size inb_S1792x1280_S1792x128_0_768), wTile 24#32 s (View.ld w (Rect.unit (s := S1792x1280) ![0, 768] S1792x128.size inb_S1792x1280_S1792x128_0_768))⟩,
    ⟨(Rect.unit (s := S1792x1280) ![0, 640] S1792x128.size inb_S1792x1280_S1792x128_0_640), wTile 20#32 s (View.ld w (Rect.unit (s := S1792x1280) ![0, 640] S1792x128.size inb_S1792x1280_S1792x128_0_640))⟩,
    ⟨(Rect.unit (s := S1792x1280) ![0, 512] S1792x128.size inb_S1792x1280_S1792x128_0_512), wTile 16#32 s (View.ld w (Rect.unit (s := S1792x1280) ![0, 512] S1792x128.size inb_S1792x1280_S1792x128_0_512))⟩,
    ⟨(Rect.unit (s := S1792x1280) ![0, 384] S1792x128.size inb_S1792x1280_S1792x128_0_384), wTile 12#32 s (View.ld w (Rect.unit (s := S1792x1280) ![0, 384] S1792x128.size inb_S1792x1280_S1792x128_0_384))⟩,
    ⟨(Rect.unit (s := S1792x1280) ![0, 256] S1792x128.size inb_S1792x1280_S1792x128_0_256), wTile 8#32 s (View.ld w (Rect.unit (s := S1792x1280) ![0, 256] S1792x128.size inb_S1792x1280_S1792x128_0_256))⟩,
    ⟨(Rect.unit (s := S1792x1280) ![0, 128] S1792x128.size inb_S1792x1280_S1792x128_0_128), wTile 4#32 s (View.ld w (Rect.unit (s := S1792x1280) ![0, 128] S1792x128.size inb_S1792x1280_S1792x128_0_128))⟩,
    ⟨(Rect.unit (s := S1792x1280) ![0, 0] S1792x128.size inb_S1792x1280_S1792x128_0_0), wTile 0#32 s (View.ld w (Rect.unit (s := S1792x1280) ![0, 0] S1792x128.size inb_S1792x1280_S1792x128_0_0))⟩]

/-- The result block: dequantised activation times dequantised weight transposed. -/
def yBlk (xw : Vec F S384x1280 .bf16) (w : Vec F S1792x1280 .fp8e4m3) (s : Vec F S1792x128 .i8) : Vec F S384x1792 .bf16 :=
  k0_pay2 xw (wwBlk w s)

end Cert.Kernel.Proof

end
-- ==== Proof.KernelBody.lean ====
module

public import proofs.«01_k».proof.Proof.Gen.Kernel.Frame
public import proofs.«01_k».proof.Proof.Gen.Kernel.Skeleton
public import Idealize.ShloMosaic.Lib.Pipeline.FrameBody
public import Idealize.ShloMosaic.Lib.Pipeline.ValueKit.Tiles
public import Idealize.ShloMosaic.Lib.Ring
public import Idealize.ShloMosaic.Lib.Tactic
public import proofs.«01_k».proof.Proof.KernelTiles

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Reading a whole buffer back after stores that tile it: the tiled contents. -/
theorem readCov_whole {κ : Kind} {sp : Space} {S : Shape} {e : EltTy} (v : View sig κ sp S e) (L : List (View.Piece (Elt F) S e))
    (off : Fin S.rank → Nat) (inb : ∀ a, off a + S.size a ≤ S.size a) (sz : Fin S.rank → Nat) (z : S.Idx → Elt F e)
    (hz : off = fun _ => 0) (ht : View.Piece.tiled L sz = true) (h : View.canon L = z) :
    v.readCov L (Rect.unit off S.size inb).toLoadRect = z :=
  (View.readCov_eq_canon_ld v L _ (View.cover_of_tiled L sz ht)).trans ((View.ld_unit_zero hz inb _).trans h)

/-- Loading a whole buffer reads its contents. -/
theorem readAt_whole {κ : Kind} {sp : Space} {S : Shape} {e : EltTy} (v : View sig κ sp S e) (f : v.ty.Contents (Elt F))
    (off : Fin S.rank → Nat) (inb : ∀ a, off a + S.size a ≤ S.size a) (hz : off = fun _ => 0) :
    View.readAt (Elt F) v (Rect.unit off S.size inb).toLoadRect f = View.read (Elt F) v f :=
  View.ld_unit_zero hz inb _

set_option maxHeartbeats 2000000 in
/-- A grid point after the first: the activation's tiles are left as they are, the weight block is dequantised into its
    scratch, and the result block is their product. -/
theorem sound_later (c : Dev nD) (E : Set ℕ) (i : grid0.Coords) (arg1 : Memref sig .tc .vmem S384x1280 .bf16) (harg1 : arg1.IsWhole) (arg2 : Memref sig .tc .vmem S1792x1280 .fp8e4m3) (harg2 : arg2.IsWhole) (arg3 : Memref sig .tc .vmem S1792x128 .i8) (harg3 : arg3.IsWhole) (arg4 : Memref sig .tc .vmem S384x1792 .bf16) (harg4 : arg4.IsWhole) (arg5 : Memref sig .tc .vmem S384x1280 .fp8e4m3) (harg5 : arg5.IsWhole) (arg6 : Memref sig .tc .vmem S384x10 .f32) (harg6 : arg6.IsWhole) (arg7 : Memref sig .tc .vmem S384x1280 .bf16) (harg7 : arg7.IsWhole) (arg8 : Memref sig .tc .vmem S1792x1280 .bf16) (harg8 : arg8.IsWhole)
    (hc : ¬ k0_cond1 i = 1#1)
    (x1 : Vec F S384x1280 .bf16) (x2 : Vec F S1792x1280 .fp8e4m3) (x3 : Vec F S1792x128 .i8) (x5 : Vec F S384x1280 .fp8e4m3) (x6 : Vec F S384x10 .f32) (x7 : Vec F S384x1280 .bf16) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare (yBlk x7 x2 x3) ∗ owns (c : Thread nD τ) arg5 fullShare x5 ∗ owns (c : Thread nD τ) arg6 fullShare x6 ∗ owns (c : Thread nD τ) arg7 fullShare x7 ∗ (∃ d, owns (c : Thread nD τ) arg8 fullShare d)) -∗ K ⟨⟩))
      ⊢ wp frame (wpE (defs₀ (F := F)) Variants.none c none) E (cc0_mxfp8_linear i arg1 harg1 arg2 harg2 arg3 harg3 arg4 harg4 arg5 harg5 arg6 harg6 arg7 harg7 arg8 harg8) K := by
  simp only [cc0_mxfp8_linear_eq_skeleton]; unfold cc0_mxfp8_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%d8, %f8, -, H8⟩, Hk⟩
  subst hf1 hf2 hf3 hf5 hf6 hf7
  sl_exec (disch := sl_exact hc)
  sl_step
  iapply Hk
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro
    sl_unfold_words
    refine (View.read_writes_eq_canon _ _ _ (View.cover_of_tiled _ S384x1792.size (by rfl))).trans ?_
    rw [View.canon_unit_zero (by decide)]
    refine congrArg₂ k0_pay2 ?_ ?_
    · exact View.ld_unit_zero (S := S384x1280) (by decide) inb_S384x1280_S384x1280_0_0 _
    · refine readCov_whole (S := S1792x1280) arg8.view _ _ _ S1792x128.size _ ?_ ?_ ?_
      · decide
      · rfl
      · rw [readAt_whole (S := S1792x128) arg3.view f3 _ _ (by decide)]
        rfl
  isplitl [H5]
  · iexists _; isplitr; swap; iexact H5; ipureintro; rfl
  isplitl [H6]
  · iexists _; isplitr; swap; iexact H6; ipureintro; rfl
  isplitl [H7]
  · iexists _; isplitr; swap; iexact H7; ipureintro; rfl
  iexists _, _; isplitr; swap; iexact H8; ipureintro; rfl

set_option maxHeartbeats 2000000 in
/-- The first grid point: the activation is quantised into its codes and scales and dequantised into its scratch, then
    the point goes on as the others do. -/
theorem sound_first (c : Dev nD) (E : Set ℕ) (i : grid0.Coords) (arg1 : Memref sig .tc .vmem S384x1280 .bf16) (harg1 : arg1.IsWhole) (arg2 : Memref sig .tc .vmem S1792x1280 .fp8e4m3) (harg2 : arg2.IsWhole) (arg3 : Memref sig .tc .vmem S1792x128 .i8) (harg3 : arg3.IsWhole) (arg4 : Memref sig .tc .vmem S384x1792 .bf16) (harg4 : arg4.IsWhole) (arg5 : Memref sig .tc .vmem S384x1280 .fp8e4m3) (harg5 : arg5.IsWhole) (arg6 : Memref sig .tc .vmem S384x10 .f32) (harg6 : arg6.IsWhole) (arg7 : Memref sig .tc .vmem S384x1280 .bf16) (harg7 : arg7.IsWhole) (arg8 : Memref sig .tc .vmem S1792x1280 .bf16) (harg8 : arg8.IsWhole)
    (hc : k0_cond1 i = 1#1)
    (x1 : Vec F S384x1280 .bf16) (x2 : Vec F S1792x1280 .fp8e4m3) (x3 : Vec F S1792x128 .i8) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare (yBlk (xwBlk x1) x2 x3) ∗ owns (c : Thread nD τ) arg5 fullShare (codesBlk x1) ∗ owns (c : Thread nD τ) arg6 fullShare (scaleBlk x1) ∗ owns (c : Thread nD τ) arg7 fullShare (xwBlk x1) ∗ (∃ d, owns (c : Thread nD τ) arg8 fullShare d)) -∗ K ⟨⟩))
      ⊢ wp frame (wpE (defs₀ (F := F)) Variants.none c none) E (cc0_mxfp8_linear i arg1 harg1 arg2 harg2 arg3 harg3 arg4 harg4 arg5 harg5 arg6 harg6 arg7 harg7 arg8 harg8) K := by
  simp only [cc0_mxfp8_linear_eq_skeleton]; unfold cc0_mxfp8_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf1 hf2 hf3
  sl_exec (disch := sl_exact hc)
  sl_step
  iapply Hk
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro
    sl_unfold_words
    refine (View.read_writes_eq_canon _ _ _ (View.cover_of_tiled _ S384x1792.size (by rfl))).trans ?_
    rw [View.canon_unit_zero (by decide)]
    refine congrArg₂ k0_pay2 ?_ ?_
    · refine readCov_whole (S := S384x1280) arg7.view _ _ _ S384x128.size _ ?_ ?_ ?_
      · decide
      · rfl
      · rfl
    · refine readCov_whole (S := S1792x1280) arg8.view _ _ _ S1792x128.size _ ?_ ?_ ?_
      · decide
      · rfl
      · rw [readAt_whole (S := S1792x128) arg3.view f3 _ _ (by decide)]
        rfl
  isplitl [H5]
  · iexists _; isplitr; swap; iexact H5; ipureintro
    sl_unfold_words
    exact View.read_writes_eq_canon _ _ _ (View.cover_of_tiled _ S384x128.size (by rfl))
  isplitl [H6]
  · iexists _; isplitr; swap; iexact H6; ipureintro
    sl_unfold_words
    exact View.read_writes_eq_canon _ _ _ (View.cover_of_tiled _ S384x1.size (by rfl))
  isplitl [H7]
  · iexists _; isplitr; swap; iexact H7; ipureintro
    sl_unfold_words
    exact View.read_writes_eq_canon _ _ _ (View.cover_of_tiled _ S384x128.size (by rfl))
  iexists _, _; isplitr; swap; iexact H8; ipureintro; rfl

end Cert.Kernel.Proof

end
-- ==== Proof.KernelFrames.lean ====
module

public import proofs.«01_k».proof.Proof.Gen.Kernel.Frame
public import proofs.«01_k».proof.Proof.Gen.Kernel.Skeleton
public import Idealize.ShloMosaic.Lib.Pipeline.FrameBody
public import Idealize.ShloMosaic.Lib.Pipeline.ValueKit.Tiles
public import Idealize.ShloMosaic.Lib.Ring
public import Idealize.ShloMosaic.Lib.Tactic
public import proofs.«01_k».proof.Proof.KernelBody
public import Idealize.ShloMosaic.Lib.Pipeline.FrameSuffix
public import Idealize.ShloMosaic.Lib.Claim

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernel runs, and its arguments end unchanged

Nothing is stated here of what the three results hold: their windows' buffers are handed to the body at any contents and
taken back at any contents. -/

/-- The weight codes' block at point `t`, zeros beyond the array's last row. -/
def wblk (c : Dev nD) (t : Fin cfg0.N) : Vec F S1792x1280 .fp8e4m3 :=
  win0_1.fill (grid0.coords t) (fun _ => Scalar.ofBits .fp8e4m3 0#8) (iblk m c 1 t)
/-- The weight scales' block at point `t`, zeros beyond the array's last row and column. -/
def sblk (c : Dev nD) (t : Fin cfg0.N) : Vec F S1792x128 .i8 :=
  win0_2.fill (grid0.coords t) (fun _ => (0#8 : BitVec 8)) (iblk m c 2 t)

/-- The proof data: each input's buffer is left at its block, the outputs' at contents nothing names. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => sblk m c t
    | ⟨3, _⟩ => View.canon []
    | ⟨4, _⟩ => View.canon []
    | ⟨5, _⟩ => View.canon []
  Φ _ := Pipeline.ΦA spec0 c
  q _ := fullShare
  owed _ := 0

/-- The windows whose contents are not tracked: the three outputs. -/
def fgt : Fin cfg0.W → Bool := fun | 0 => false | 1 => false | 2 => false | 3 => true | 4 => true | 5 => true | ⟨_ + 6, h⟩ => absurd h (Nat.not_lt.2 (Nat.le_add_left _ _))

theorem fA_eq (c : Dev nD) (w : Fin cfg0.W) : (fdats m 0 c).A w = V m c (Pipeline.arrRef spec0 w) := by
  dsimp only [fdats]
theorem fafter_0 (c : Dev nD) (t : Fin cfg0.N) : (fdats m 0 c).after 0 t = iblk m c 0 t := by dsimp only [fdats]
theorem fafter_1 (c : Dev nD) (t : Fin cfg0.N) : (fdats m 0 c).after 1 t = wblk m c t := by dsimp only [fdats]
theorem fafter_2 (c : Dev nD) (t : Fin cfg0.N) : (fdats m 0 c).after 2 t = sblk m c t := by dsimp only [fdats]

theorem fbefore_0 (c : Dev nD) (t : Fin cfg0.N) (d) : (fdats m 0 c).before 0 t d = iblk m c 0 t :=
  before0_0_of m (fdats m 0 c) (fA_eq m c 0) (fafter_0 m c) t d
/-- A cut block as the body finds it: the array's part, and anything past the array's end. -/
theorem fbefore_1 (c : Dev nD) (t : Fin cfg0.N) (d) : (fdats m 0 c).before 1 t d = win0_1.fill (grid0.coords t) d (iblk m c 1 t) := by
  unfold Dat.before; rw [if_pos (fetch0_1 t)]; unfold Dat.fetched Dat.blockOf iblk; rw [fA_eq]
theorem fbefore_2 (c : Dev nD) (t : Fin cfg0.N) (d) : (fdats m 0 c).before 2 t d = win0_2.fill (grid0.coords t) d (iblk m c 2 t) := by
  unfold Dat.before; rw [if_pos (fetch0_2 t)]; unfold Dat.fetched Dat.blockOf iblk; rw [fA_eq]

/-- The body at any point, from whole blocks to whole blocks, whatever the outputs' buffers and the scratches hold. -/
theorem sound_any (c : Dev nD) (t : Fin cfg0.N) (x1 : Vec F S384x1280 .bf16) (x2 : Vec F S1792x1280 .fp8e4m3) (x3 : Vec F S1792x128 .i8)
    (K : PUnit → sProp 𝕄) :
    iprop(owns (c : Thread nD τ) (st0_0 t) fullShare x1 ∗ owns (c : Thread nD τ) (st0_1 t) fullShare x2 ∗ owns (c : Thread nD τ) (st0_2 t) fullShare x3
        ∗ (∃ d, owns (c : Thread nD τ) (st0_3 t) fullShare d) ∗ (∃ d, owns (c : Thread nD τ) (st0_4 t) fullShare d) ∗ (∃ d, owns (c : Thread nD τ) (st0_5 t) fullShare d)
        ∗ (∃ d, owns (c : Thread nD τ) (Memref.whole cc0_scratch0) fullShare d) ∗ (∃ d, owns (c : Thread nD τ) (Memref.whole cc0_scratch1) fullShare d)
        ∗ (iprop(owns (c : Thread nD τ) (st0_0 t) fullShare x1 ∗ owns (c : Thread nD τ) (st0_1 t) fullShare x2 ∗ owns (c : Thread nD τ) (st0_2 t) fullShare x3
        ∗ (∃ d, owns (c : Thread nD τ) (st0_3 t) fullShare d) ∗ (∃ d, owns (c : Thread nD τ) (st0_4 t) fullShare d) ∗ (∃ d, owns (c : Thread nD τ) (st0_5 t) fullShare d)
        ∗ (∃ d, owns (c : Thread nD τ) (Memref.whole cc0_scratch0) fullShare d) ∗ (∃ d, owns (c : Thread nD τ) (Memref.whole cc0_scratch1) fullShare d)) -∗ K ⟨⟩))
      ⊢ wp frame (wpE (defs₀ (F := F)) Variants.none c none) Set.univ (bodyAt0 t) K := by
  unfold bodyAt0
  by_cases hc : k0_cond1 (grid0.coords t) = 1#1
  · iintro ⟨H1, H2, H3, H4, H5, H6, H7, H8, Hk⟩
    iapply (sound_first c Set.univ (grid0.coords t) _ _ _ _ _ _ _ _ _ _ _ _ _ _ _ _ hc x1 x2 x3 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iexact H8
  · iintro ⟨H1, H2, H3, H4, ⟨%d5, H5⟩, ⟨%d6, H6⟩, ⟨%d7, H7⟩, H8, Hk⟩
    iapply (sound_later c Set.univ (grid0.coords t) _ _ _ _ _ _ _ _ _ _ _ _ _ _ _ _ hc x1 x2 x3 d5 d6 d7 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Owning a whole scratch buffer is holding its cell. -/
theorem whole_pt (c : Dev nD) (b : Ref sig .tc) (f) :
    owns (c : Thread nD τ) (Memref.whole b) fullShare f ⊢ (((c : Thread nD τ).loc b ↦{fullShare} f : sProp 𝕄)) := by
  rw [owns_whole]

/-- What the body is called with at point `t`, and what it returns, the windows one by one. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d))
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ (∃ d, owns (c : Thread nD τ) (st0_1 t) fullShare (win0_1.fill (grid0.coords t) d (win0_1.cut (grid0.coords t) ((fdats m 0 c).after 1 t))))
    ∗ (∃ d, owns (c : Thread nD τ) (st0_2 t) fullShare (win0_2.fill (grid0.coords t) d (win0_2.cut (grid0.coords t) ((fdats m 0 c).after 2 t))))
    ∗ (∃ d, owns (c : Thread nD τ) (st0_3 t) fullShare d)
    ∗ (∃ d, owns (c : Thread nD τ) (st0_4 t) fullShare d)
    ∗ (∃ d, owns (c : Thread nD τ) (st0_5 t) fullShare d))

theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost
  simp only [fbefore_0, fbefore_1, fbefore_2]
  rw [show (fdats m 0 c).Φ t.succ = (fdats m 0 c).Φ t.castSucc from rfl,
    show (fdats m 0 c).owesAt () t.succ = (fdats m 0 c).owesAt () t.castSucc from rfl,
    fafter_0, fafter_1, fafter_2,
    show win0_1.cut (grid0.coords t) (wblk m c t) = iblk m c 1 t from win0_1.cut_fill _ _ _,
    show win0_2.cut (grid0.coords t) (sblk m c t) = iblk m c 2 t from win0_2.cut_fill _ _ _,
    show (fdats m 0 c).Φ t.castSucc = Pipeline.ΦA spec0 c from rfl]
  unfold Pipeline.ΦA
  rw [scopedRest0_eq]
  iintro ⟨⟨⟨⟨%g0, Hs0⟩, ⟨%g1, Hs1⟩⟩, Hp⟩, Ho, ⟨%d0, H0⟩, ⟨%d1, H1⟩, ⟨%d2, H2⟩, H3, H4, H5⟩
  iapply (sound_any c t (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexact H3
  isplitl [H4]; · iexact H4
  isplitl [H5]; · iexact H5
  isplitl [Hs0]; · iexists g0; rw [owns_whole]; iexact Hs0
  isplitl [Hs1]; · iexists g1; rw [owns_whole]; iexact Hs1
  iintro ⟨H0, H1, H2, H3, H4, H5, ⟨%e0, Hs0⟩, ⟨%e1, Hs1⟩⟩
  isplitl [Hs0 Hs1 Hp]
  · isplitl [Hs0 Hs1]
    · isplitl [Hs0]
      · iexists e0; iapply (whole_pt c cc0_scratch0 e0); iexact Hs0
      · iexists e1; iapply (whole_pt c cc0_scratch1 e1); iexact Hs1
    · iexact Hp
  isplitl [Ho]; · iexact Ho
  isplitl [H0]; · iexact H0
  isplitl [H1]; · iexists d1; iexact H1
  isplitl [H2]; · iexists d2; iexact H2
  isplitl [H3]; · iexact H3
  isplitl [H4]; · iexact H4
  iexact H5

/-- The pipeline's body obligation, the outputs untracked. -/
theorem fbody_obligation (c : Dev nD) : BodyObligationLoose (fdats (F := F) m 0 c) (defs₀ (F := F)) Variants.none () Set.univ fgt := fun t => by
  rw [bigSep_W0, bigSep_W0, defs₀_row]
  exact triple_restated (fsound_body m c t) rfl .rfl fun _ => .rfl

/-- The buffers the host writes after the kernel: the three reshaped results. -/
def tailT : Finset (Ref sig .tc) := {main_v2, main_v3, main_v4}

theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    have hb' := Proc.devRef_injective .tc hb
    subst hb'
    simp [tailT]

set_option backward.isDefEq.respectTransparency.types false in
set_option maxHeartbeats 800000 in
/-- The launch: every execution ends with each input array as the region found it and every counter at zero. -/
theorem frun : θ_run defs (onTc (τ := τ) (main (F := F))) (s₀ m ρ) (fun r =>
    RDat.FramePostR (cfgs 0) (fun c => (fdats m 0 c).toRForget fgt) tailT (fun c b => V0 m c (Proc.devRef .tc b)) r ∧ r.2.sem = fun _ => 0) :=
  Pipeline.θ_run_frame_around_T_forget (Q' := _) cfgs (fdats m) (0 : Fin 1) launch0 defs₀ Variants.none fgt tailT m ρ main
    (hbody := fun c => fbody_obligation m c) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl)

/-- The kernel terminates without fault, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      (h.1.arr_in c 1 rfl).trans ((fA_eq m c 1).trans (V_main_arg1 m c)),
      (h.1.arr_in c 2 rfl).trans ((fA_eq m c 2).trans (V_main_arg2 m c))⟩, h.2⟩) (frun m ρ)

end Cert.Kernel.Proof

end
-- ==== Proof.Tiles.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.ValueKit.Tiles
public import Idealize.ShloMosaic.Lib.Ring
public import Idealize.ShloMosaic.Lib.Tactic

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # What one grid point leaves in the blocks, as functions of the blocks it reads

The columns of the activation and of the weight come in ten groups of 128 lanes. Each buffer the kernel fills is ten
tiles, one per group; here are the tile functions (the same for all ten groups, up to the group's number) and the
buffers they make. -/

/-- The dequantised activation of one group of 128 columns: codes times scale. -/
def xwTile (x : Vec F S384x128 .bf16) : FVec F S384x128 .bf16 := k0_pay7 (k0_pay5 x) (k0_pay6 x)

/-- The column of the scale block (40 columns, held in 128 lanes) that lane `l` of a weight tile reads: `l / 32 + c`. -/
def scaleLane (c : BitVec 32) : IVec S896x128 32 :=
  have v8 : IVec S896x128 32 := iota .tc S896x128 32 [1] iota_S896x128_d1_w32
  have v50 : IVec S896x128 32 := broadcast S896x128 32#32
  have v51 : IVec S896x128 32 := divsi v8 v50
  have v52 : IVec S896x128 32 := broadcast S896x128 0#32
  have v53 : IVec S896x128 1 := cmpi .sgt v8 v52
  have v54 : IVec S896x128 32 := extui 32 v53 natLt_1_32
  have v55 : IVec S896x128 32 := broadcast S896x128 0#32
  have v56 : IVec S896x128 1 := cmpi .slt v8 v55
  have v57 : IVec S896x128 32 := extui 32 v56 natLt_1_32
  have v58 : IVec S896x128 32 := subi v54 v57
  let v59 : BitVec 1 := Scalar.cmpi .sgt 32#32 0#32
  let v60 : BitVec 32 := Scalar.extui v59
  let v61 : BitVec 1 := Scalar.cmpi .slt 32#32 0#32
  let v62 : BitVec 32 := Scalar.extui v61
  let v63 : BitVec 32 := Scalar.subi v60 v62
  have v64 : IVec S896x128 32 := broadcast S896x128 v63
  have v65 : IVec S896x128 1 := cmpi .ne v58 v64
  have v66 : IVec S896x128 32 := broadcast S896x128 32#32
  have v67 : IVec S896x128 32 := remsi v8 v66
  have v68 : IVec S896x128 32 := broadcast S896x128 0#32
  have v69 : IVec S896x128 1 := cmpi .ne v67 v68
  have v70 : IVec S896x128 1 := andi v65 v69
  have v71 : IVec S896x128 32 := broadcast S896x128 1#32
  have v72 : IVec S896x128 32 := subi v51 v71
  have v73 : IVec S896x128 32 := select v70 v72 v51
  have v74 : IVec S896x128 32 := broadcast S896x128 c
  have v75 : IVec S896x128 32 := addi v73 v74
  have v76 : IVec S896x128 32 := broadcast S896x128 0#32
  have v77 : IVec S896x128 1 := cmpi .slt v75 v76
  have v78 : IVec S896x128 32 := broadcast S896x128 128#32
  have v79 : IVec S896x128 32 := addi v75 v78
  select v77 v79 v75

/-- The scales of one weight tile, one per element: the scale bytes widened to 16 bits and shifted to the exponent
    place, gathered along the lanes as 32-bit pairs, read as bf16. -/
def sTile (c : BitVec 32) (s : Vec F S1792x128 .i8) : FVec F S1792x128 .bf16 :=
  have v81 : IVec S896x128x1 32 := shapeCast S896x128x1 (scaleLane c) shapeCasts_S896x128_S896x128x1
  have v82 : IVec S896x128 32 := shapeCast S896x128 v81 shapeCasts_S896x128x1_S896x128
  have v83 : IVec S896x128 32 := dynamicGather 1 (k0_pay70 s) v82
  bitcastToFloat .bf16 (bitcast S1792x128 16 v83 bitcasts_S896x128_w32_S1792x128_w16)

/-- One tile of the dequantised weight: codes times scales. -/
def wTile (c : BitVec 32) (s : Vec F S1792x128 .i8) (w : Vec F S1792x128 .fp8e4m3) : FVec F S1792x128 .bf16 :=
  shapeCast S1792x128 (mulf (extf .bf16 w bitsLt_fp8e4m3_bf16) (sTile c s)) shapeCasts_S1792x128_S1792x128

/-- The codes of the whole activation block. -/
def codesBlk (x : Vec F S384x1280 .bf16) : Vec F S384x1280 .fp8e4m3 := View.canon
  [ ⟨(Rect.unit (s := S384x1280) ![0, 1152] S384x128.size inb_S384x1280_S384x128_0_1152), k0_pay6 (View.ld x (Rect.unit (s := S384x1280) ![0, 1152] S384x128.size inb_S384x1280_S384x128_0_1152))⟩,
    ⟨(Rect.unit (s := S384x1280) ![0, 1024] S384x128.size inb_S384x1280_S384x128_0_1024), k0_pay6 (View.ld x (Rect.unit (s := S384x1280) ![0, 1024] S384x128.size inb_S384x1280_S384x128_0_1024))⟩,
    ⟨(Rect.unit (s := S384x1280) ![0, 896] S384x128.size inb_S384x1280_S384x128_0_896), k0_pay6 (View.ld x (Rect.unit (s := S384x1280) ![0, 896] S384x128.size inb_S384x1280_S384x128_0_896))⟩,
    ⟨(Rect.unit (s := S384x1280) ![0, 768] S384x128.size inb_S384x1280_S384x128_0_768), k0_pay6 (View.ld x (Rect.unit (s := S384x1280) ![0, 768] S384x128.size inb_S384x1280_S384x128_0_768))⟩,
    ⟨(Rect.unit (s := S384x1280) ![0, 640] S384x128.size inb_S384x1280_S384x128_0_640), k0_pay6 (View.ld x (Rect.unit (s := S384x1280) ![0, 640] S384x128.size inb_S384x1280_S384x128_0_640))⟩,
    ⟨(Rect.unit (s := S384x1280) ![0, 512] S384x128.size inb_S384x1280_S384x128_0_512), k0_pay6 (View.ld x (Rect.unit (s := S384x1280) ![0, 512] S384x128.size inb_S384x1280_S384x128_0_512))⟩,
    ⟨(Rect.unit (s := S384x1280) ![0, 384] S384x128.size inb_S384x1280_S384x128_0_384), k0_pay6 (View.ld x (Rect.unit (s := S384x1280) ![0, 384] S384x128.size inb_S384x1280_S384x128_0_384))⟩,
    ⟨(Rect.unit (s := S384x1280) ![0, 256] S384x128.size inb_S384x1280_S384x128_0_256), k0_pay6 (View.ld x (Rect.unit (s := S384x1280) ![0, 256] S384x128.size inb_S384x1280_S384x128_0_256))⟩,
    ⟨(Rect.unit (s := S384x1280) ![0, 128] S384x128.size inb_S384x1280_S384x128_0_128), k0_pay6 (View.ld x (Rect.unit (s := S384x1280) ![0, 128] S384x128.size inb_S384x1280_S384x128_0_128))⟩,
    ⟨(Rect.unit (s := S384x1280) ![0, 0] S384x128.size inb_S384x1280_S384x128_0_0), k0_pay6 (View.ld x (Rect.unit (s := S384x1280) ![0, 0] S384x128.size inb_S384x1280_S384x128_0_0))⟩]

/-- The scales of the whole activation block, one per row and group. -/
def scaleBlk (x : Vec F S384x1280 .bf16) : Vec F S384x10 .f32 := View.canon
  [ ⟨(Rect.unit (s := S384x10) ![0, 9] S384x1.size inb_S384x10_S384x1_0_9), k0_pay5 (View.ld x (Rect.unit (s := S384x1280) ![0, 1152] S384x128.size inb_S384x1280_S384x128_0_1152))⟩,
    ⟨(Rect.unit (s := S384x10) ![0, 8] S384x1.size inb_S384x10_S384x1_0_8), k0_pay5 (View.ld x (Rect.unit (s := S384x1280) ![0, 1024] S384x128.size inb_S384x1280_S384x128_0_1024))⟩,
    ⟨(Rect.unit (s := S384x10) ![0, 7] S384x1.size inb_S384x10_S384x1_0_7), k0_pay5 (View.ld x (Rect.unit (s := S384x1280) ![0, 896] S384x128.size inb_S384x1280_S384x128_0_896))⟩,
    ⟨(Rect.unit (s := S384x10) ![0, 6] S384x1.size inb_S384x10_S384x1_0_6), k0_pay5 (View.ld x (Rect.unit (s := S384x1280) ![0, 768] S384x128.size inb_S384x1280_S384x128_0_768))⟩,
    ⟨(Rect.unit (s := S384x10) ![0, 5] S384x1.size inb_S384x10_S384x1_0_5), k0_pay5 (View.ld x (Rect.unit (s := S384x1280) ![0, 640] S384x128.size inb_S384x1280_S384x128_0_640))⟩,
    ⟨(Rect.unit (s := S384x10) ![0, 4] S384x1.size inb_S384x10_S384x1_0_4), k0_pay5 (View.ld x (Rect.unit (s := S384x1280) ![0, 512] S384x128.size inb_S384x1280_S384x128_0_512))⟩,
    ⟨(Rect.unit (s := S384x10) ![0, 3] S384x1.size inb_S384x10_S384x1_0_3), k0_pay5 (View.ld x (Rect.unit (s := S384x1280) ![0, 384] S384x128.size inb_S384x1280_S384x128_0_384))⟩,
    ⟨(Rect.unit (s := S384x10) ![0, 2] S384x1.size inb_S384x10_S384x1_0_2), k0_pay5 (View.ld x (Rect.unit (s := S384x1280) ![0, 256] S384x128.size inb_S384x1280_S384x128_0_256))⟩,
    ⟨(Rect.unit (s := S384x10) ![0, 1] S384x1.size inb_S384x10_S384x1_0_1), k0_pay5 (View.ld x (Rect.unit (s := S384x1280) ![0, 128] S384x128.size inb_S384x1280_S384x128_0_128))⟩,
    ⟨(Rect.unit (s := S384x10) ![0, 0] S384x1.size inb_S384x10_S384x1_0_0), k0_pay5 (View.ld x (Rect.unit (s := S384x1280) ![0, 0] S384x128.size inb_S384x1280_S384x128_0_0))⟩]

/-- The dequantised activation block. -/
def xwBlk (x : Vec F S384x1280 .bf16) : Vec F S384x1280 .bf16 := View.canon
  [ ⟨(Rect.unit (s := S384x1280) ![0, 1152] S384x128.size inb_S384x1280_S384x128_0_1152), xwTile (View.ld x (Rect.unit (s := S384x1280) ![0, 1152] S384x128.size inb_S384x1280_S384x128_0_1152))⟩,
    ⟨(Rect.unit (s := S384x1280) ![0, 1024] S384x128.size inb_S384x1280_S384x128_0_1024), xwTile (View.ld x (Rect.unit (s := S384x1280) ![0, 1024] S384x128.size inb_S384x1280_S384x128_0_1024))⟩,
    ⟨(Rect.unit (s := S384x1280) ![0, 896] S384x128.size inb_S384x1280_S384x128_0_896), xwTile (View.ld x (Rect.unit (s := S384x1280) ![0, 896] S384x128.size inb_S384x1280_S384x128_0_896))⟩,
    ⟨(Rect.unit (s := S384x1280) ![0, 768] S384x128.size inb_S384x1280_S384x128_0_768), xwTile (View.ld x (Rect.unit (s := S384x1280) ![0, 768] S384x128.size inb_S384x1280_S384x128_0_768))⟩,
    ⟨(Rect.unit (s := S384x1280) ![0, 640] S384x128.size inb_S384x1280_S384x128_0_640), xwTile (View.ld x (Rect.unit (s := S384x1280) ![0, 640] S384x128.size inb_S384x1280_S384x128_0_640))⟩,
    ⟨(Rect.unit (s := S384x1280) ![0, 512] S384x128.size inb_S384x1280_S384x128_0_512), xwTile (View.ld x (Rect.unit (s := S384x1280) ![0, 512] S384x128.size inb_S384x1280_S384x128_0_512))⟩,
    ⟨(Rect.unit (s := S384x1280) ![0, 384] S384x128.size inb_S384x1280_S384x128_0_384), xwTile (View.ld x (Rect.unit (s := S384x1280) ![0, 384] S384x128.size inb_S384x1280_S384x128_0_384))⟩,
    ⟨(Rect.unit (s := S384x1280) ![0, 256] S384x128.size inb_S384x1280_S384x128_0_256), xwTile (View.ld x (Rect.unit (s := S384x1280) ![0, 256] S384x128.size inb_S384x1280_S384x128_0_256))⟩,
    ⟨(Rect.unit (s := S384x1280) ![0, 128] S384x128.size inb_S384x1280_S384x128_0_128), xwTile (View.ld x (Rect.unit (s := S384x1280) ![0, 128] S384x128.size inb_S384x1280_S384x128_0_128))⟩,
    ⟨(Rect.unit (s := S384x1280) ![0, 0] S384x128.size inb_S384x1280_S384x128_0_0), xwTile (View.ld x (Rect.unit (s := S384x1280) ![0, 0] S384x128.size inb_S384x1280_S384x128_0_0))⟩]

/-- The dequantised weight block. -/
def wwBlk (w : Vec F S1792x1280 .fp8e4m3) (s : Vec F S1792x128 .i8) : Vec F S1792x1280 .bf16 := View.canon
  [ ⟨(Rect.unit (s := S1792x1280) ![0, 1152] S1792x128.size inb_S1792x1280_S1792x128_0_1152), wTile 36#32 s (View.ld w (Rect.unit (s := S1792x1280) ![0, 1152] S1792x128.size inb_S1792x1280_S1792x128_0_1152))⟩,
    ⟨(Rect.unit (s := S1792x1280) ![0, 1024] S1792x128.size inb_S1792x1280_S1792x128_0_1024), wTile 32#32 s (View.ld w (Rect.unit (s := S1792x1280) ![0, 1024] S1792x128.size inb_S1792x1280_S1792x128_0_1024))⟩,
    ⟨(Rect.unit (s := S1792x1280) ![0, 896] S1792x128.size inb_S1792x1280_S1792x128_0_896), wTile 28#32 s (View.ld w (Rect.unit (s := S1792x1280) ![0, 896] S1792x128.size inb_S1792x1280_S1792x128_0_896))⟩,
    ⟨(Rect.unit (s := S1792x1280) ![0, 768] S1792x128.size inb_S1792x1280_S1792x128_0_768), wTile 24#32 s (View.ld w (Rect.unit (s := S1792x1280) ![0, 768] S1792x128.size inb_S1792x1280_S1792x128_0_768))⟩,
    ⟨(Rect.unit (s := S1792x1280) ![0, 640] S1792x128.size inb_S1792x1280_S1792x128_0_640), wTile 20#32 s (View.ld w (Rect.unit (s := S1792x1280) ![0, 640] S1792x128.size inb_S1792x1280_S1792x128_0_640))⟩,
    ⟨(Rect.unit (s := S1792x1280) ![0, 512] S1792x128.size inb_S1792x1280_S1792x128_0_512), wTile 16#32 s (View.ld w (Rect.unit (s := S1792x1280) ![0, 512] S1792x128.size inb_S1792x1280_S1792x128_0_512))⟩,
    ⟨(Rect.unit (s := S1792x1280) ![0, 384] S1792x128.size inb_S1792x1280_S1792x128_0_384), wTile 12#32 s (View.ld w (Rect.unit (s := S1792x1280) ![0, 384] S1792x128.size inb_S1792x1280_S1792x128_0_384))⟩,
    ⟨(Rect.unit (s := S1792x1280) ![0, 256] S1792x128.size inb_S1792x1280_S1792x128_0_256), wTile 8#32 s (View.ld w (Rect.unit (s := S1792x1280) ![0, 256] S1792x128.size inb_S1792x1280_S1792x128_0_256))⟩,
    ⟨(Rect.unit (s := S1792x1280) ![0, 128] S1792x128.size inb_S1792x1280_S1792x128_0_128), wTile 4#32 s (View.ld w (Rect.unit (s := S1792x1280) ![0, 128] S1792x128.size inb_S1792x1280_S1792x128_0_128))⟩,
    ⟨(Rect.unit (s := S1792x1280) ![0, 0] S1792x128.size inb_S1792x1280_S1792x128_0_0), wTile 0#32 s (View.ld w (Rect.unit (s := S1792x1280) ![0, 0] S1792x128.size inb_S1792x1280_S1792x128_0_0))⟩]

/-- The result block: dequantised activation times dequantised weight transposed. -/
def yBlk (xw : Vec F S384x1280 .bf16) (w : Vec F S1792x1280 .fp8e4m3) (s : Vec F S1792x128 .i8) : Vec F S384x1792 .bf16 :=
  k0_pay2 xw (wwBlk w s)

end Cert.KernelIdeal.Proof

end
-- ==== Proof.Body.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.ValueKit.Tiles
public import Idealize.ShloMosaic.Lib.Ring
public import Idealize.ShloMosaic.Lib.Tactic
public import proofs.«01_k».proof.Proof.Tiles

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Reading a whole buffer back after stores that tile it: the tiled contents. -/
theorem readCov_whole {κ : Kind} {sp : Space} {S : Shape} {e : EltTy} (v : View sig κ sp S e) (L : List (View.Piece (Elt F) S e))
    (off : Fin S.rank → Nat) (inb : ∀ a, off a + S.size a ≤ S.size a) (sz : Fin S.rank → Nat) (z : S.Idx → Elt F e)
    (hz : off = fun _ => 0) (ht : View.Piece.tiled L sz = true) (h : View.canon L = z) :
    v.readCov L (Rect.unit off S.size inb).toLoadRect = z :=
  (View.readCov_eq_canon_ld v L _ (View.cover_of_tiled L sz ht)).trans ((View.ld_unit_zero hz inb _).trans h)

/-- Loading a whole buffer reads its contents. -/
theorem readAt_whole {κ : Kind} {sp : Space} {S : Shape} {e : EltTy} (v : View sig κ sp S e) (f : v.ty.Contents (Elt F))
    (off : Fin S.rank → Nat) (inb : ∀ a, off a + S.size a ≤ S.size a) (hz : off = fun _ => 0) :
    View.readAt (Elt F) v (Rect.unit off S.size inb).toLoadRect f = View.read (Elt F) v f :=
  View.ld_unit_zero hz inb _

set_option maxHeartbeats 2000000 in
/-- A grid point after the first: the activation's tiles are left as they are, the weight block is dequantised into its
    scratch, and the result block is their product. -/
theorem sound_later (c : Dev nD) (E : Set ℕ) (i : grid0.Coords) (arg1 : Memref sig .tc .vmem S384x1280 .bf16) (harg1 : arg1.IsWhole) (arg2 : Memref sig .tc .vmem S1792x1280 .fp8e4m3) (harg2 : arg2.IsWhole) (arg3 : Memref sig .tc .vmem S1792x128 .i8) (harg3 : arg3.IsWhole) (arg4 : Memref sig .tc .vmem S384x1792 .bf16) (harg4 : arg4.IsWhole) (arg5 : Memref sig .tc .vmem S384x1280 .fp8e4m3) (harg5 : arg5.IsWhole) (arg6 : Memref sig .tc .vmem S384x10 .f32) (harg6 : arg6.IsWhole) (arg7 : Memref sig .tc .vmem S384x1280 .bf16) (harg7 : arg7.IsWhole) (arg8 : Memref sig .tc .vmem S1792x1280 .bf16) (harg8 : arg8.IsWhole)
    (hc : ¬ k0_cond1 i = 1#1)
    (x1 : Vec F S384x1280 .bf16) (x2 : Vec F S1792x1280 .fp8e4m3) (x3 : Vec F S1792x128 .i8) (x5 : Vec F S384x1280 .fp8e4m3) (x6 : Vec F S384x10 .f32) (x7 : Vec F S384x1280 .bf16) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare (yBlk x7 x2 x3) ∗ owns (c : Thread nD τ) arg5 fullShare x5 ∗ owns (c : Thread nD τ) arg6 fullShare x6 ∗ owns (c : Thread nD τ) arg7 fullShare x7 ∗ (∃ d, owns (c : Thread nD τ) arg8 fullShare d)) -∗ K ⟨⟩))
      ⊢ wp frame (wpE (defs₀ (F := F)) Variants.none c none) E (cc0_mxfp8_linear i arg1 harg1 arg2 harg2 arg3 harg3 arg4 harg4 arg5 harg5 arg6 harg6 arg7 harg7 arg8 harg8) K := by
  simp only [cc0_mxfp8_linear_eq_skeleton]; unfold cc0_mxfp8_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%d8, %f8, -, H8⟩, Hk⟩
  subst hf1 hf2 hf3 hf5 hf6 hf7
  sl_exec (disch := sl_exact hc)
  sl_step
  iapply Hk
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro
    sl_unfold_words
    refine (View.read_writes_eq_canon _ _ _ (View.cover_of_tiled _ S384x1792.size (by rfl))).trans ?_
    rw [View.canon_unit_zero (by decide)]
    refine congrArg₂ k0_pay2 ?_ ?_
    · exact View.ld_unit_zero (S := S384x1280) (by decide) inb_S384x1280_S384x1280_0_0 _
    · refine readCov_whole (S := S1792x1280) arg8.view _ _ _ S1792x128.size _ ?_ ?_ ?_
      · decide
      · rfl
      · rw [readAt_whole (S := S1792x128) arg3.view f3 _ _ (by decide)]
        rfl
  isplitl [H5]
  · iexists _; isplitr; swap; iexact H5; ipureintro; rfl
  isplitl [H6]
  · iexists _; isplitr; swap; iexact H6; ipureintro; rfl
  isplitl [H7]
  · iexists _; isplitr; swap; iexact H7; ipureintro; rfl
  iexists _, _; isplitr; swap; iexact H8; ipureintro; rfl

set_option maxHeartbeats 2000000 in
/-- The first grid point: the activation is quantised into its codes and scales and dequantised into its scratch, then
    the point goes on as the others do. -/
theorem sound_first (c : Dev nD) (E : Set ℕ) (i : grid0.Coords) (arg1 : Memref sig .tc .vmem S384x1280 .bf16) (harg1 : arg1.IsWhole) (arg2 : Memref sig .tc .vmem S1792x1280 .fp8e4m3) (harg2 : arg2.IsWhole) (arg3 : Memref sig .tc .vmem S1792x128 .i8) (harg3 : arg3.IsWhole) (arg4 : Memref sig .tc .vmem S384x1792 .bf16) (harg4 : arg4.IsWhole) (arg5 : Memref sig .tc .vmem S384x1280 .fp8e4m3) (harg5 : arg5.IsWhole) (arg6 : Memref sig .tc .vmem S384x10 .f32) (harg6 : arg6.IsWhole) (arg7 : Memref sig .tc .vmem S384x1280 .bf16) (harg7 : arg7.IsWhole) (arg8 : Memref sig .tc .vmem S1792x1280 .bf16) (harg8 : arg8.IsWhole)
    (hc : k0_cond1 i = 1#1)
    (x1 : Vec F S384x1280 .bf16) (x2 : Vec F S1792x1280 .fp8e4m3) (x3 : Vec F S1792x128 .i8) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare (yBlk (xwBlk x1) x2 x3) ∗ owns (c : Thread nD τ) arg5 fullShare (codesBlk x1) ∗ owns (c : Thread nD τ) arg6 fullShare (scaleBlk x1) ∗ owns (c : Thread nD τ) arg7 fullShare (xwBlk x1) ∗ (∃ d, owns (c : Thread nD τ) arg8 fullShare d)) -∗ K ⟨⟩))
      ⊢ wp frame (wpE (defs₀ (F := F)) Variants.none c none) E (cc0_mxfp8_linear i arg1 harg1 arg2 harg2 arg3 harg3 arg4 harg4 arg5 harg5 arg6 harg6 arg7 harg7 arg8 harg8) K := by
  simp only [cc0_mxfp8_linear_eq_skeleton]; unfold cc0_mxfp8_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf1 hf2 hf3
  sl_exec (disch := sl_exact hc)
  sl_step
  iapply Hk
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro
    sl_unfold_words
    refine (View.read_writes_eq_canon _ _ _ (View.cover_of_tiled _ S384x1792.size (by rfl))).trans ?_
    rw [View.canon_unit_zero (by decide)]
    refine congrArg₂ k0_pay2 ?_ ?_
    · refine readCov_whole (S := S384x1280) arg7.view _ _ _ S384x128.size _ ?_ ?_ ?_
      · decide
      · rfl
      · rfl
    · refine readCov_whole (S := S1792x1280) arg8.view _ _ _ S1792x128.size _ ?_ ?_ ?_
      · decide
      · rfl
      · rw [readAt_whole (S := S1792x128) arg3.view f3 _ _ (by decide)]
        rfl
  isplitl [H5]
  · iexists _; isplitr; swap; iexact H5; ipureintro
    sl_unfold_words
    exact View.read_writes_eq_canon _ _ _ (View.cover_of_tiled _ S384x128.size (by rfl))
  isplitl [H6]
  · iexists _; isplitr; swap; iexact H6; ipureintro
    sl_unfold_words
    exact View.read_writes_eq_canon _ _ _ (View.cover_of_tiled _ S384x1.size (by rfl))
  isplitl [H7]
  · iexists _; isplitr; swap; iexact H7; ipureintro
    sl_unfold_words
    exact View.read_writes_eq_canon _ _ _ (View.cover_of_tiled _ S384x128.size (by rfl))
  iexists _, _; isplitr; swap; iexact H8; ipureintro; rfl

end Cert.KernelIdeal.Proof

end
-- ==== Proof.Frames.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.ValueKit.Tiles
public import Idealize.ShloMosaic.Lib.Ring
public import Idealize.ShloMosaic.Lib.Tactic
public import proofs.«01_k».proof.Proof.Body
public import Idealize.ShloMosaic.Lib.Pipeline.FrameSuffix
public import Idealize.ShloMosaic.Lib.Claim

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernel runs, and its arguments end unchanged

Nothing is stated here of what the three results hold: their windows' buffers are handed to the body at any contents and
taken back at any contents. -/

/-- The weight codes' block at point `t`, zeros beyond the array's last row. -/
def wblk (c : Dev nD) (t : Fin cfg0.N) : Vec F S1792x1280 .fp8e4m3 :=
  win0_1.fill (grid0.coords t) (fun _ => Scalar.ofBits .fp8e4m3 0#8) (iblk m c 1 t)
/-- The weight scales' block at point `t`, zeros beyond the array's last row and column. -/
def sblk (c : Dev nD) (t : Fin cfg0.N) : Vec F S1792x128 .i8 :=
  win0_2.fill (grid0.coords t) (fun _ => (0#8 : BitVec 8)) (iblk m c 2 t)

/-- The proof data: each input's buffer is left at its block, the outputs' at contents nothing names. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => sblk m c t
    | ⟨3, _⟩ => View.canon []
    | ⟨4, _⟩ => View.canon []
    | ⟨5, _⟩ => View.canon []
  Φ _ := Pipeline.ΦA spec0 c
  q _ := fullShare
  owed _ := 0

/-- The windows whose contents are not tracked: the three outputs. -/
def fgt : Fin cfg0.W → Bool := fun | 0 => false | 1 => false | 2 => false | 3 => true | 4 => true | 5 => true | ⟨_ + 6, h⟩ => absurd h (Nat.not_lt.2 (Nat.le_add_left _ _))

theorem fA_eq (c : Dev nD) (w : Fin cfg0.W) : (fdats m 0 c).A w = V m c (Pipeline.arrRef spec0 w) := by
  dsimp only [fdats]
theorem fafter_0 (c : Dev nD) (t : Fin cfg0.N) : (fdats m 0 c).after 0 t = iblk m c 0 t := by dsimp only [fdats]
theorem fafter_1 (c : Dev nD) (t : Fin cfg0.N) : (fdats m 0 c).after 1 t = wblk m c t := by dsimp only [fdats]
theorem fafter_2 (c : Dev nD) (t : Fin cfg0.N) : (fdats m 0 c).after 2 t = sblk m c t := by dsimp only [fdats]

theorem fbefore_0 (c : Dev nD) (t : Fin cfg0.N) (d) : (fdats m 0 c).before 0 t d = iblk m c 0 t :=
  before0_0_of m (fdats m 0 c) (fA_eq m c 0) (fafter_0 m c) t d
/-- A cut block as the body finds it: the array's part, and anything past the array's end. -/
theorem fbefore_1 (c : Dev nD) (t : Fin cfg0.N) (d) : (fdats m 0 c).before 1 t d = win0_1.fill (grid0.coords t) d (iblk m c 1 t) := by
  unfold Dat.before; rw [if_pos (fetch0_1 t)]; unfold Dat.fetched Dat.blockOf iblk; rw [fA_eq]
theorem fbefore_2 (c : Dev nD) (t : Fin cfg0.N) (d) : (fdats m 0 c).before 2 t d = win0_2.fill (grid0.coords t) d (iblk m c 2 t) := by
  unfold Dat.before; rw [if_pos (fetch0_2 t)]; unfold Dat.fetched Dat.blockOf iblk; rw [fA_eq]

/-- The body at any point, from whole blocks to whole blocks, whatever the outputs' buffers and the scratches hold. -/
theorem sound_any (c : Dev nD) (t : Fin cfg0.N) (x1 : Vec F S384x1280 .bf16) (x2 : Vec F S1792x1280 .fp8e4m3) (x3 : Vec F S1792x128 .i8)
    (K : PUnit → sProp 𝕄) :
    iprop(owns (c : Thread nD τ) (st0_0 t) fullShare x1 ∗ owns (c : Thread nD τ) (st0_1 t) fullShare x2 ∗ owns (c : Thread nD τ) (st0_2 t) fullShare x3
        ∗ (∃ d, owns (c : Thread nD τ) (st0_3 t) fullShare d) ∗ (∃ d, owns (c : Thread nD τ) (st0_4 t) fullShare d) ∗ (∃ d, owns (c : Thread nD τ) (st0_5 t) fullShare d)
        ∗ (∃ d, owns (c : Thread nD τ) (Memref.whole cc0_scratch0) fullShare d) ∗ (∃ d, owns (c : Thread nD τ) (Memref.whole cc0_scratch1) fullShare d)
        ∗ (iprop(owns (c : Thread nD τ) (st0_0 t) fullShare x1 ∗ owns (c : Thread nD τ) (st0_1 t) fullShare x2 ∗ owns (c : Thread nD τ) (st0_2 t) fullShare x3
        ∗ (∃ d, owns (c : Thread nD τ) (st0_3 t) fullShare d) ∗ (∃ d, owns (c : Thread nD τ) (st0_4 t) fullShare d) ∗ (∃ d, owns (c : Thread nD τ) (st0_5 t) fullShare d)
        ∗ (∃ d, owns (c : Thread nD τ) (Memref.whole cc0_scratch0) fullShare d) ∗ (∃ d, owns (c : Thread nD τ) (Memref.whole cc0_scratch1) fullShare d)) -∗ K ⟨⟩))
      ⊢ wp frame (wpE (defs₀ (F := F)) Variants.none c none) Set.univ (bodyAt0 t) K := by
  unfold bodyAt0
  by_cases hc : k0_cond1 (grid0.coords t) = 1#1
  · iintro ⟨H1, H2, H3, H4, H5, H6, H7, H8, Hk⟩
    iapply (sound_first c Set.univ (grid0.coords t) _ _ _ _ _ _ _ _ _ _ _ _ _ _ _ _ hc x1 x2 x3 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iexact H8
  · iintro ⟨H1, H2, H3, H4, ⟨%d5, H5⟩, ⟨%d6, H6⟩, ⟨%d7, H7⟩, H8, Hk⟩
    iapply (sound_later c Set.univ (grid0.coords t) _ _ _ _ _ _ _ _ _ _ _ _ _ _ _ _ hc x1 x2 x3 d5 d6 d7 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Owning a whole scratch buffer is holding its cell. -/
theorem whole_pt (c : Dev nD) (b : Ref sig .tc) (f) :
    owns (c : Thread nD τ) (Memref.whole b) fullShare f ⊢ (((c : Thread nD τ).loc b ↦{fullShare} f : sProp 𝕄)) := by
  rw [owns_whole]

/-- What the body is called with at point `t`, and what it returns, the windows one by one. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d))
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ (∃ d, owns (c : Thread nD τ) (st0_1 t) fullShare (win0_1.fill (grid0.coords t) d (win0_1.cut (grid0.coords t) ((fdats m 0 c).after 1 t))))
    ∗ (∃ d, owns (c : Thread nD τ) (st0_2 t) fullShare (win0_2.fill (grid0.coords t) d (win0_2.cut (grid0.coords t) ((fdats m 0 c).after 2 t))))
    ∗ (∃ d, owns (c : Thread nD τ) (st0_3 t) fullShare d)
    ∗ (∃ d, owns (c : Thread nD τ) (st0_4 t) fullShare d)
    ∗ (∃ d, owns (c : Thread nD τ) (st0_5 t) fullShare d))

theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost
  simp only [fbefore_0, fbefore_1, fbefore_2]
  rw [show (fdats m 0 c).Φ t.succ = (fdats m 0 c).Φ t.castSucc from rfl,
    show (fdats m 0 c).owesAt () t.succ = (fdats m 0 c).owesAt () t.castSucc from rfl,
    fafter_0, fafter_1, fafter_2,
    show win0_1.cut (grid0.coords t) (wblk m c t) = iblk m c 1 t from win0_1.cut_fill _ _ _,
    show win0_2.cut (grid0.coords t) (sblk m c t) = iblk m c 2 t from win0_2.cut_fill _ _ _,
    show (fdats m 0 c).Φ t.castSucc = Pipeline.ΦA spec0 c from rfl]
  unfold Pipeline.ΦA
  rw [scopedRest0_eq]
  iintro ⟨⟨⟨⟨%g0, Hs0⟩, ⟨%g1, Hs1⟩⟩, Hp⟩, Ho, ⟨%d0, H0⟩, ⟨%d1, H1⟩, ⟨%d2, H2⟩, H3, H4, H5⟩
  iapply (sound_any c t (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexact H3
  isplitl [H4]; · iexact H4
  isplitl [H5]; · iexact H5
  isplitl [Hs0]; · iexists g0; rw [owns_whole]; iexact Hs0
  isplitl [Hs1]; · iexists g1; rw [owns_whole]; iexact Hs1
  iintro ⟨H0, H1, H2, H3, H4, H5, ⟨%e0, Hs0⟩, ⟨%e1, Hs1⟩⟩
  isplitl [Hs0 Hs1 Hp]
  · isplitl [Hs0 Hs1]
    · isplitl [Hs0]
      · iexists e0; iapply (whole_pt c cc0_scratch0 e0); iexact Hs0
      · iexists e1; iapply (whole_pt c cc0_scratch1 e1); iexact Hs1
    · iexact Hp
  isplitl [Ho]; · iexact Ho
  isplitl [H0]; · iexact H0
  isplitl [H1]; · iexists d1; iexact H1
  isplitl [H2]; · iexists d2; iexact H2
  isplitl [H3]; · iexact H3
  isplitl [H4]; · iexact H4
  iexact H5

/-- The pipeline's body obligation, the outputs untracked. -/
theorem fbody_obligation (c : Dev nD) : BodyObligationLoose (fdats (F := F) m 0 c) (defs₀ (F := F)) Variants.none () Set.univ fgt := fun t => by
  rw [bigSep_W0, bigSep_W0, defs₀_row]
  exact triple_restated (fsound_body m c t) rfl .rfl fun _ => .rfl

/-- The buffers the host writes after the kernel: the three reshaped results. -/
def tailT : Finset (Ref sig .tc) := {main_v2, main_v3, main_v4}

theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    have hb' := Proc.devRef_injective .tc hb
    subst hb'
    simp [tailT]

set_option backward.isDefEq.respectTransparency.types false in
set_option maxHeartbeats 800000 in
/-- The launch: every execution ends with each input array as the region found it and every counter at zero. -/
theorem frun : θ_run defs (onTc (τ := τ) (main (F := F))) (s₀ m ρ) (fun r =>
    RDat.FramePostR (cfgs 0) (fun c => (fdats m 0 c).toRForget fgt) tailT (fun c b => V0 m c (Proc.devRef .tc b)) r ∧ r.2.sem = fun _ => 0) :=
  Pipeline.θ_run_frame_around_T_forget (Q' := _) cfgs (fdats m) (0 : Fin 1) launch0 defs₀ Variants.none fgt tailT m ρ main
    (hbody := fun c => fbody_obligation m c) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl)

/-- The kernel terminates without fault, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      (h.1.arr_in c 1 rfl).trans ((fA_eq m c 1).trans (V_main_arg1 m c)),
      (h.1.arr_in c 2 rfl).trans ((fA_eq m c 2).trans (V_main_arg2 m c))⟩, h.2⟩) (frun m ρ)

end Cert.KernelIdeal.Proof

end
-- ==== Proof.Track.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.ValueKit.Tiles
public import Idealize.ShloMosaic.Lib.Ring
public import Idealize.ShloMosaic.Lib.Tactic
public import proofs.«01_k».proof.Proof.Frames
public import Idealize.ShloMosaic.Lib.Pipeline.FrameSuffix
public import Idealize.ShloMosaic.Lib.Claim

@[expose] public section

set_option maxRecDepth 16384

noncomputable section

namespace Cert.KernelIdeal.Track

open Cert.KernelIdeal Cert.KernelIdeal.Gen
open Cert.KernelIdeal.Proof hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernel's run, with what its results hold

The same run as the frame's, every buffer tracked: the activation's codes and scales are made at the first grid point
and kept to the last, its dequantised block stays in a scratch, and each point leaves its block of the product. Where a
block of the weight overhangs its array, the words past the array's end reach only the columns of the result past ITS
end (`hloc`, to be shown of the numbers). -/

/-- The activation, as the region finds it. -/
def xblk (c : Dev nD) : Vec F S384x1280 .bf16 := iblk m c 0 ⟨0, by rw [show cfg0.N = 17 from N_0]; omega⟩

/-- Every point reads the same activation block. -/
theorem iblk_0 (c : Dev nD) (t : Fin cfg0.N) : iblk m c 0 t = xblk m c := by
  unfold xblk iblk
  rfl

/-- What is kept beside the windows' buffers: before the first point anything, after it the dequantised activation. -/
def VΦ (c : Dev nD) (t : Fin (cfg0.N + 1)) : sProp 𝕄 :=
  if t.val = 0 then Pipeline.ΦA spec0 c
  else iprop((((((c : Thread nD τ).loc cc0_scratch0) ↦{fullShare} (xwBlk (xblk m c) : Buf (Elt F) ((c : Thread nD τ).loc cc0_scratch0)))
    ∗ (∃ f : Buf (Elt F) ((c : Thread nD τ).loc cc0_scratch1), ((c : Thread nD τ).loc cc0_scratch1) ↦{fullShare} f)) ∗ ∃ r, prngReg c r))

/-- The proof data: every window's buffer, named. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => sblk m c t
    | ⟨3, _⟩ => yBlk (xwBlk (xblk m c)) (wblk m c t) (sblk m c t)
    | ⟨4, _⟩ => codesBlk (xblk m c)
    | ⟨5, _⟩ => scaleBlk (xblk m c)
  Φ t := VΦ m c t
  q _ := fullShare
  owed _ := 0

theorem vA_eq (c : Dev nD) (w : Fin cfg0.W) : (vdats m 0 c).A w = V m c (Pipeline.arrRef spec0 w) := by
  dsimp only [vdats]
theorem vafter_0 (c : Dev nD) (t : Fin cfg0.N) : (vdats m 0 c).after 0 t = iblk m c 0 t := by dsimp only [vdats]
theorem vafter_1 (c : Dev nD) (t : Fin cfg0.N) : (vdats m 0 c).after 1 t = wblk m c t := by dsimp only [vdats]
theorem vafter_2 (c : Dev nD) (t : Fin cfg0.N) : (vdats m 0 c).after 2 t = sblk m c t := by dsimp only [vdats]
theorem vafter_3 (c : Dev nD) (t : Fin cfg0.N) : (vdats m 0 c).after 3 t = yBlk (xwBlk (xblk m c)) (wblk m c t) (sblk m c t) := by dsimp only [vdats]
theorem vafter_4 (c : Dev nD) (t : Fin cfg0.N) : (vdats m 0 c).after 4 t = codesBlk (xblk m c) := by dsimp only [vdats]
theorem vafter_5 (c : Dev nD) (t : Fin cfg0.N) : (vdats m 0 c).after 5 t = scaleBlk (xblk m c) := by dsimp only [vdats]
theorem vΦ_eq (c : Dev nD) (t : Fin (cfg0.N + 1)) : (vdats m 0 c).Φ t = VΦ m c t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = win0_1.fill (grid0.coords t) d (iblk m c 1 t) := by
  unfold Dat.before; rw [if_pos (fetch0_1 t)]; unfold Dat.fetched Dat.blockOf iblk; rw [vA_eq]
theorem vbefore_2 (c : Dev nD) (t : Fin cfg0.N) (d) : (vdats m 0 c).before 2 t d = win0_2.fill (grid0.coords t) d (iblk m c 2 t) := by
  unfold Dat.before; rw [if_pos (fetch0_2 t)]; unfold Dat.fetched Dat.blockOf iblk; rw [vA_eq]

/-- The condition of the kernel's first block holds at the first point only. -/
theorem cond_iff : ∀ t : Fin cfg0.N, k0_cond1 (grid0.coords t) = 1#1 ↔ t.val = 0 :=
  (by decide +kernel : ∀ t : Fin grid0.N, k0_cond1 (grid0.coords t) = 1#1 ↔ t.val = 0)

theorem idle_4 (t : Fin cfg0.N) : cfg0.idle 4 (cfg0.grid.coords t) = !(k0_cond1 (grid0.coords t) == 1#1) := rfl
theorem idle_5 (t : Fin cfg0.N) : cfg0.idle 5 (cfg0.grid.coords t) = !(k0_cond1 (grid0.coords t) == 1#1) := rfl

/-- After the first point the codes' buffer holds the codes. -/
theorem vbefore_4 (c : Dev nD) : ∀ (n : ℕ) (t : Fin cfg0.N), t.val = n → t.val ≠ 0 → ∀ d, (vdats m 0 c).before 4 t d = codesBlk (xblk m c)
  | 0, t, hn, h0, d => absurd hn h0
  | n + 1, t, hn, h0, d => by
    have hN : t.val < 17 := t.isLt.trans_eq N_0
    rw [(vdats m 0 c).before_of_pos 4 t h0 rfl d, if_neg (fun h => by
      have := (flush0_4 _).1 h; dsimp only at this; omega)]
    unfold Dat.left
    rw [idle_4]
    by_cases h1 : n = 0
    · have hc : k0_cond1 (grid0.coords ⟨t.val - 1, Nat.lt_of_le_of_lt (Nat.sub_le _ _) t.isLt⟩) = 1#1 := (cond_iff _).2 (by dsimp only; omega)
      rw [hc]
      show (vdats m 0 c).after 4 _ = _
      exact vafter_4 m c _
    · have hc : ¬ k0_cond1 (grid0.coords ⟨t.val - 1, Nat.lt_of_le_of_lt (Nat.sub_le _ _) t.isLt⟩) = 1#1 := fun h => by
        have := (cond_iff _).1 h; dsimp only at this; omega
      rw [show (k0_cond1 (grid0.coords ⟨t.val - 1, Nat.lt_of_le_of_lt (Nat.sub_le _ _) t.isLt⟩) == 1#1) = false from beq_eq_false_iff_ne.2 hc]
      exact vbefore_4 c n _ (by dsimp only; omega) (by dsimp only; omega) d

/-- After the first point the scales' buffer holds the scales. -/
theorem vbefore_5 (c : Dev nD) : ∀ (n : ℕ) (t : Fin cfg0.N), t.val = n → t.val ≠ 0 → ∀ d, (vdats m 0 c).before 5 t d = scaleBlk (xblk m c)
  | 0, t, hn, h0, d => absurd hn h0
  | n + 1, t, hn, h0, d => by
    have hN : t.val < 17 := t.isLt.trans_eq N_0
    rw [(vdats m 0 c).before_of_pos 5 t h0 rfl d, if_neg (fun h => by
      have := (flush0_5 _).1 h; dsimp only at this; omega)]
    unfold Dat.left
    rw [idle_5]
    by_cases h1 : n = 0
    · have hc : k0_cond1 (grid0.coords ⟨t.val - 1, Nat.lt_of_le_of_lt (Nat.sub_le _ _) t.isLt⟩) = 1#1 := (cond_iff _).2 (by dsimp only; omega)
      rw [hc]
      show (vdats m 0 c).after 5 _ = _
      exact vafter_5 m c _
    · have hc : ¬ k0_cond1 (grid0.coords ⟨t.val - 1, Nat.lt_of_le_of_lt (Nat.sub_le _ _) t.isLt⟩) = 1#1 := fun h => by
        have := (cond_iff _).1 h; dsimp only at this; omega
      rw [show (k0_cond1 (grid0.coords ⟨t.val - 1, Nat.lt_of_le_of_lt (Nat.sub_le _ _) t.isLt⟩) == 1#1) = false from beq_eq_false_iff_ne.2 hc]
      exact vbefore_5 c n _ (by dsimp only; omega) (by dsimp only; omega) d

/-- What the body is called with at point `t`, and what it returns, the windows one by one. -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d)))
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ (∃ d, owns (c : Thread nD τ) (st0_1 t) fullShare (win0_1.fill (grid0.coords t) d (win0_1.cut (grid0.coords t) ((vdats m 0 c).after 1 t))))
    ∗ (∃ d, owns (c : Thread nD τ) (st0_2 t) fullShare (win0_2.fill (grid0.coords t) d (win0_2.cut (grid0.coords t) ((vdats m 0 c).after 2 t))))
    ∗ (∃ d, owns (c : Thread nD τ) (st0_3 t) fullShare (win0_3.fill (grid0.coords t) d (win0_3.cut (grid0.coords t) ((vdats m 0 c).after 3 t))))
    ∗ owns (c : Thread nD τ) (st0_4 t) fullShare (codesBlk (xblk m c))
    ∗ owns (c : Thread nD τ) (st0_5 t) fullShare (scaleBlk (xblk m c)))

/-- The words past the weight's end do not reach the result's columns inside its array. -/
def Local : Prop := ∀ (c : Dev nD) (t : Fin cfg0.N) (d1 : Vec F S1792x1280 .fp8e4m3) (d2 : Vec F S1792x128 .i8),
  win0_3.cut (grid0.coords t) (yBlk (xwBlk (xblk m c)) (win0_1.fill (grid0.coords t) d1 (iblk m c 1 t)) (win0_2.fill (grid0.coords t) d2 (iblk m c 2 t)))
    = win0_3.cut (grid0.coords t) (yBlk (xwBlk (xblk m c)) (wblk m c t) (sblk m c t))

theorem vsound_body (hloc : Local m) (c : Dev nD) (t : Fin cfg0.N) :
    vbodyPre m c t ⊢ wp frame (wpE (defs₀ (F := F)) Variants.none c none) Set.univ (bodyAt0 t) (fun _ => vbodyPost m c t) := by
  unfold vbodyPre vbodyPost
  have hs : t.succ.val ≠ 0 := Nat.succ_ne_zero _
  have hfill : ∀ d1 d2, yBlk (xwBlk (xblk m c)) (win0_1.fill (grid0.coords t) d1 (iblk m c 1 t)) (win0_2.fill (grid0.coords t) d2 (iblk m c 2 t))
      = win0_3.fill (grid0.coords t) (yBlk (xwBlk (xblk m c)) (win0_1.fill (grid0.coords t) d1 (iblk m c 1 t)) (win0_2.fill (grid0.coords t) d2 (iblk m c 2 t)))
        (win0_3.cut (grid0.coords t) (yBlk (xwBlk (xblk m c)) (wblk m c t) (sblk m c t))) := fun d1 d2 => by
    rw [← hloc c t d1 d2]; exact (win0_3.fill_cut _ _).symm
  simp only [vbefore_0, vbefore_1, vbefore_2]
  rw [show (vdats m 0 c).owesAt () t.succ = (vdats m 0 c).owesAt () t.castSucc from rfl,
    vafter_0, vafter_1, vafter_2, vafter_3, vΦ_eq, vΦ_eq,
    show win0_1.cut (grid0.coords t) (wblk m c t) = iblk m c 1 t from win0_1.cut_fill _ _ _,
    show win0_2.cut (grid0.coords t) (sblk m c t) = iblk m c 2 t from win0_2.cut_fill _ _ _, iblk_0]
  rw [show VΦ m c t.succ = _ from if_neg hs]
  by_cases h0 : t.val = 0
  · rw [show VΦ m c t.castSucc = _ from if_pos h0]
    have hc := (cond_iff t).2 h0
    unfold Pipeline.ΦA
    rw [scopedRest0_eq]
    unfold bodyAt0
    iintro ⟨⟨⟨⟨%g0, Hs0⟩, ⟨%g1, Hs1⟩⟩, Hp⟩, Ho, ⟨%d0, H0⟩, ⟨%d1, H1⟩, ⟨%d2, H2⟩, ⟨%d3, H3⟩, ⟨%d4, H4⟩, ⟨%d5, H5⟩⟩
    iapply (sound_first c Set.univ (grid0.coords t) _ _ _ _ _ _ _ _ _ _ _ _ _ _ _ _ hc (xblk m c) (win0_1.fill (grid0.coords t) d1 (iblk m c 1 t)) (win0_2.fill (grid0.coords t) d2 (iblk m c 2 t)) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [Hs0]; · iexists g0; rw [owns_whole]; iexact Hs0
    isplitl [Hs1]; · iexists g1; rw [owns_whole]; iexact Hs1
    iintro ⟨H0, H1, H2, H3, H4, H5, Hs0, ⟨%e1, Hs1⟩⟩
    isplitl [Hs0 Hs1 Hp]
    · isplitl [Hs0 Hs1]
      · isplitl [Hs0]
        · iapply (whole_pt c cc0_scratch0 (xwBlk (xblk m c))); iexact Hs0
        · iexists e1; iapply (whole_pt c cc0_scratch1 e1); iexact Hs1
      · iexact Hp
    isplitl [Ho]; · iexact Ho
    isplitl [H0]; · iexact H0
    isplitl [H1]; · iexists d1; iexact H1
    isplitl [H2]; · iexists d2; iexact H2
    isplitl [H3]
    · iexists (yBlk (xwBlk (xblk m c)) (win0_1.fill (grid0.coords t) d1 (iblk m c 1 t)) (win0_2.fill (grid0.coords t) d2 (iblk m c 2 t)))
      rw [← hfill d1 d2]; iexact H3
    isplitl [H4]; · iexact H4
    iexact H5
  · rw [show VΦ m c t.castSucc = _ from if_neg h0]
    have hc := fun h => h0 ((cond_iff t).1 h)
    simp only [vbefore_4 m c t.val t rfl h0, vbefore_5 m c t.val t rfl h0]
    unfold bodyAt0
    iintro ⟨⟨⟨Hs0, ⟨%g1, Hs1⟩⟩, Hp⟩, Ho, ⟨%d0, H0⟩, ⟨%d1, H1⟩, ⟨%d2, H2⟩, ⟨%d3, H3⟩, ⟨%d4, H4⟩, ⟨%d5, H5⟩⟩
    iapply (sound_later c Set.univ (grid0.coords t) _ _ _ _ _ _ _ _ _ _ _ _ _ _ _ _ hc (xblk m c) (win0_1.fill (grid0.coords t) d1 (iblk m c 1 t)) (win0_2.fill (grid0.coords t) d2 (iblk m c 2 t)) (codesBlk (xblk m c)) (scaleBlk (xblk m c)) (xwBlk (xblk m c)) _)
    isplitl [H0]; · iexact H0
    isplitl [H1]; · iexact H1
    isplitl [H2]; · iexact H2
    isplitl [H3]; · iexists _; iexact H3
    isplitl [H4]; · iexact H4
    isplitl [H5]; · iexact H5
    isplitl [Hs0]; · rw [owns_whole]; iexact Hs0
    isplitl [Hs1]; · iexists g1; rw [owns_whole]; iexact Hs1
    iintro ⟨H0, H1, H2, H3, H4, H5, Hs0, ⟨%e1, Hs1⟩⟩
    isplitl [Hs0 Hs1 Hp]
    · isplitl [Hs0 Hs1]
      · isplitl [Hs0]
        · iapply (whole_pt c cc0_scratch0 (xwBlk (xblk m c))); iexact Hs0
        · iexists e1; iapply (whole_pt c cc0_scratch1 e1); iexact Hs1
      · iexact Hp
    isplitl [Ho]; · iexact Ho
    isplitl [H0]; · iexact H0
    isplitl [H1]; · iexists d1; iexact H1
    isplitl [H2]; · iexists d2; iexact H2
    isplitl [H3]
    · iexists (yBlk (xwBlk (xblk m c)) (win0_1.fill (grid0.coords t) d1 (iblk m c 1 t)) (win0_2.fill (grid0.coords t) d2 (iblk m c 2 t)))
      rw [← hfill d1 d2]; iexact H3
    isplitl [H4]; · iexact H4
    iexact H5

/-- The codes' buffer as the pipeline wants it back: after the first point untouched until it is written back. -/
theorem handed_4 (c : Dev nD) (t : Fin cfg0.N) :
    (owns (c : Thread nD τ) (st0_4 t) fullShare (codesBlk (xblk m c)) : sProp 𝕄)
      ⊢ (match cfg0.idle 4 (cfg0.grid.coords t) with
        | true =>
          match (cfg0.win 4).flush t with
          | false => iprop(∃ d, owns (c : Thread nD τ) (st0_4 t) fullShare ((vdats m 0 c).before 4 t d))
          | true => owns (c : Thread nD τ) (st0_4 t) fullShare ((vdats m 0 c).after 4 t)
        | false => owns (c : Thread nD τ) (st0_4 t) fullShare ((vdats m 0 c).after 4 t)) := by
  rw [vafter_4, idle_4]
  by_cases h0 : t.val = 0
  · rw [(cond_iff t).2 h0]; exact .rfl
  · rw [show (k0_cond1 (grid0.coords t) == 1#1) = false from beq_eq_false_iff_ne.2 fun h => h0 ((cond_iff t).1 h)]
    cases (cfg0.win 4).flush t
    · simp only [vbefore_4 m c t.val t rfl h0]
      show _ ⊢ iprop(∃ d : (cfg0.win 4).block.Idx → Elt F (cfg0.win 4).elt, owns (c : Thread nD τ) (st0_4 t) fullShare (codesBlk (xblk m c)))
      iintro H; iexists (codesBlk (xblk m c)); iexact H
    · exact .rfl
/-- The scales' buffer likewise. -/
theorem handed_5 (c : Dev nD) (t : Fin cfg0.N) :
    (owns (c : Thread nD τ) (st0_5 t) fullShare (scaleBlk (xblk m c)) : sProp 𝕄)
      ⊢ (match cfg0.idle 5 (cfg0.grid.coords t) with
        | true =>
          match (cfg0.win 5).flush t with
          | false => iprop(∃ d, owns (c : Thread nD τ) (st0_5 t) fullShare ((vdats m 0 c).before 5 t d))
          | true => owns (c : Thread nD τ) (st0_5 t) fullShare ((vdats m 0 c).after 5 t)
        | false => owns (c : Thread nD τ) (st0_5 t) fullShare ((vdats m 0 c).after 5 t)) := by
  rw [vafter_5, idle_5]
  by_cases h0 : t.val = 0
  · rw [(cond_iff t).2 h0]; exact .rfl
  · rw [show (k0_cond1 (grid0.coords t) == 1#1) = false from beq_eq_false_iff_ne.2 fun h => h0 ((cond_iff t).1 h)]
    cases (cfg0.win 5).flush t
    · simp only [vbefore_5 m c t.val t rfl h0]
      show _ ⊢ iprop(∃ d : (cfg0.win 5).block.Idx → Elt F (cfg0.win 5).elt, owns (c : Thread nD τ) (st0_5 t) fullShare (scaleBlk (xblk m c)))
      iintro H; iexists (scaleBlk (xblk m c)); iexact H
    · exact .rfl

/-- The pipeline's body obligation, every window tracked. -/
theorem vbody_obligation (hloc : Local m) (c : Dev nD) : BodyObligationLoose (vdats (F := F) m 0 c) (defs₀ (F := F)) Variants.none () Set.univ := fun t => by
  rw [bigSep_W0, bigSep_W0, defs₀_row]
  refine triple_restated (vsound_body m hloc c t) rfl .rfl fun _ => ?_
  unfold vbodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (handed_4 m c t); iexact H4
  · iapply (handed_5 m c t); iexact H5

theorem vin (c : Dev nD) : (Pipeline.ΦA (cfgs 0).spec c : sProp 𝕄) ⊢ (vdats m 0 c).Φ 0 := by
  rw [vΦ_eq, show VΦ m c 0 = Pipeline.ΦA spec0 c from if_pos rfl]

theorem vout (c : Dev nD) : (vdats m 0 c).Φ (Fin.last (cfgs 0).N) ⊢ (Pipeline.ΦA (cfgs 0).spec c : sProp 𝕄) := by
  rw [vΦ_eq, show VΦ m c (Fin.last (cfgs 0).N) = _ from if_neg (by
    show (cfgs 0).N ≠ 0
    rw [show (cfgs 0).N = 17 from N_0]; decide)]
  show _ ⊢ Pipeline.ΦA spec0 c
  unfold Pipeline.ΦA
  rw [scopedRest0_eq]
  iintro ⟨⟨Hs0, Hs1⟩, Hp⟩
  isplitl [Hs0 Hs1]
  · isplitl [Hs0]
    · iexists _; iexact Hs0
    · iexact Hs1
  · iexact Hp

set_option backward.isDefEq.respectTransparency.types false in
set_option maxHeartbeats 800000 in
/-- The launch: every execution ends with each array at what the points wrote back into it, and the reshaped results. -/
theorem vrun (hloc : Local m) : θ_run defs (onTc (τ := τ) (main (F := F))) (s₀ m ρ)
    (Pipeline.FramePost cfgs (vdats m) 0 (Pipeline.afterTail₀ cfgs (vdats m) 0 (V0 m) [hostOps1])) :=
  Pipeline.θ_run_frame_around_track cfgs (vdats m) (0 : Fin 1) launch0 defs₀ Variants.none m ρ main
    (hbody := fun c => vbody_obligation m hloc c) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := vin m) (hout := vout m) (Q' := _) (hQ' := fun _ h => h.1)

end Cert.KernelIdeal.Track

end
-- ==== Proof.Numbers.lean ====
module

public import Idealize.ShloMosaic.PureOps.Ideal

@[expose] public section

noncomputable section

namespace Cert.Numbers

open Idealize.ShloMosaic

/-! # The arithmetic of the scales

A scale is a power of two. One program builds it from the bits of an exponent it counted; the other computes the exponent
by a logarithm and raises two to it. -/

/-- The word of a difference is the difference of the words. -/
theorem ofInt_sub {w : ℕ} (a b : ℤ) : BitVec.ofInt w (a - b) = BitVec.ofInt w a - BitVec.ofInt w b := by
  apply BitVec.eq_of_toInt_eq; simp [BitVec.toInt_sub, BitVec.toInt_ofInt]

/-- The exponent field of the word `k · 2^23` is `k`, its fraction is zero and its sign is plus. -/
theorem f32_fields : ∀ k : Fin 256, ((BitVec.ofNat 32 k.val <<< 23).extractLsb' 23 8).toNat = k.val
    ∧ ((BitVec.ofNat 32 k.val <<< 23).extractLsb' 0 23).toNat = 0
    ∧ ((BitVec.ofNat 32 k.val <<< 23).extractLsb' 31 1 == 1#1) = false := by decide +kernel

/-- The same of the 16-bit word `k · 2^7`. -/
theorem bf16_fields : ∀ k : Fin 256, ((BitVec.ofNat 16 k.val <<< 7).extractLsb' 7 8).toNat = k.val
    ∧ ((BitVec.ofNat 16 k.val <<< 7).extractLsb' 0 7).toNat = 0
    ∧ ((BitVec.ofNat 16 k.val <<< 7).extractLsb' 15 1 == 1#1) = false := by decide +kernel

/-- A pattern with exponent field `k`, `1 ≤ k ≤ 254`, and nothing else denotes `2^(k - 127)`. -/
theorem ofBits_f32_pow (k : ℕ) (h1 : 1 ≤ k) (h2 : k ≤ 254) :
    Ideal.ofBits .f32 (BitVec.ofNat 32 k <<< 23) = (((2 : ℝ) ^ ((k : ℤ) - 127) : ℝ) : EReal) := by
  obtain ⟨hx, hf, hs⟩ := f32_fields ⟨k, by omega⟩
  simp only at hx hf hs
  unfold Ideal.ofBits Ideal.ieee
  dsimp only [Nat.reduceAdd]
  rw [hx, hf, hs, if_neg (by omega), if_neg (by omega)]
  refine EReal.coe_eq_coe_iff.2 ?_
  simp only [Bool.false_eq_true, if_false, one_mul]
  rw [Nat.add_zero, Nat.cast_pow, Nat.cast_ofNat, ← zpow_natCast (2 : ℝ) 23, ← zpow_add₀ (by norm_num)]
  refine congrArg (fun z : ℤ => (2 : ℝ) ^ z) ?_
  push_cast; ring

/-- The same of bf16. -/
theorem ofBits_bf16_pow (k : ℕ) (h1 : 1 ≤ k) (h2 : k ≤ 254) :
    Ideal.ofBits .bf16 (BitVec.ofNat 16 k <<< 7) = (((2 : ℝ) ^ ((k : ℤ) - 127) : ℝ) : EReal) := by
  obtain ⟨hx, hf, hs⟩ := bf16_fields ⟨k, by omega⟩
  simp only at hx hf hs
  unfold Ideal.ofBits Ideal.ieee
  dsimp only [Nat.reduceAdd]
  rw [hx, hf, hs, if_neg (by omega), if_neg (by omega)]
  refine EReal.coe_eq_coe_iff.2 ?_
  simp only [Bool.false_eq_true, if_false, one_mul]
  rw [show ((2 ^ 7 + 0 : ℕ) : ℝ) = (2 : ℝ) ^ (7 : ℤ) by norm_num, ← zpow_add₀ (by norm_num)]
  refine congrArg (fun z : ℤ => (2 : ℝ) ^ z) ?_
  push_cast; ring

/-- Exponent field zero denotes zero. -/
theorem ofBits_f32_pow_zero : Ideal.ofBits .f32 (BitVec.ofNat 32 0 <<< 23) = 0 := by
  obtain ⟨hx, hf, hs⟩ := f32_fields ⟨0, by omega⟩
  simp only at hx hf hs
  unfold Ideal.ofBits Ideal.ieee
  dsimp only [Nat.reduceAdd]
  rw [hx, hf, hs, if_neg (by omega), if_pos rfl]
  simp

/-- Exponent field 255 denotes infinity. -/
theorem ofBits_f32_pow_top : Ideal.ofBits .f32 (BitVec.ofNat 32 255 <<< 23) = ⊤ := by
  obtain ⟨hx, hf, hs⟩ := f32_fields ⟨255, by omega⟩
  simp only at hx hf hs
  unfold Ideal.ofBits Ideal.ieee
  dsimp only [Nat.reduceAdd]
  rw [hx, hf, hs, if_pos (by norm_num), if_pos rfl]
  simp

/-- A power of two is at most `t` exactly when its exponent is at most the binary logarithm. -/
theorem le_log2_iff (t : ℝ) (h0 : 0 < t) (k : ℤ) : (k : ℝ) ≤ Real.log t / Real.log 2 ↔ (2 : ℝ) ^ k ≤ t := by
  rw [le_div_iff₀ (Real.log_pos (by norm_num)), ← Real.log_zpow, Real.log_le_log_iff (by positivity) h0]

/-- The number of exponent fields whose power of two is at most `t`. -/
def count (t : EReal) : ℕ := (Finset.univ.filter fun k : Fin 256 => Ideal.ofBits .f32 (BitVec.ofNat 32 k.val <<< 23) ≤ t).card

/-- The count is one (for the field 0) more than the clamped exponent of `t`. -/
theorem count_eq (t : ℝ) (h0 : 0 < t) (h1 : t < 2 ^ (120 : ℕ)) :
    (count (t : EReal) : ℤ) = 1 + max (⌊Real.log t / Real.log 2⌋ + 127) 0 := by
  set n := ⌊Real.log t / Real.log 2⌋ with hn
  have hlt : n < 120 := by
    rw [hn, Int.floor_lt, ← not_le, le_log2_iff t h0, not_le]
    exact_mod_cast h1
  have hset : (Finset.univ.filter fun k : Fin 256 => Ideal.ofBits .f32 (BitVec.ofNat 32 k.val <<< 23) ≤ (t : EReal))
      = Finset.univ.filter fun k : Fin 256 => k.val < 1 + (max (n + 127) 0).toNat := by
    ext k
    simp only [Finset.mem_filter, Finset.mem_univ, true_and]
    rcases Nat.eq_zero_or_pos k.val with h | h
    · rw [h, ofBits_f32_pow_zero]
      exact ⟨fun _ => by omega, fun _ => by exact_mod_cast h0.le⟩
    by_cases h' : k.val = 255
    · rw [h', ofBits_f32_pow_top]
      constructor
      · intro hh; exact absurd (top_le_iff.1 hh) (EReal.coe_ne_top t)
      · intro hh; omega
    rw [ofBits_f32_pow k.val h (by omega), EReal.coe_le_coe_iff]
    have : ((2 : ℝ) ^ ((k.val : ℤ) - 127) ≤ t) ↔ (k.val : ℤ) - 127 ≤ n := by
      rw [hn, Int.le_floor, le_log2_iff t h0]
    rw [this]; omega
  unfold count
  rw [hset]
  have : (Finset.univ.filter fun k : Fin 256 => k.val < 1 + (max (n + 127) 0).toNat).card = 1 + (max (n + 127) 0).toNat := by
    rw [Fin.card_filter_val_lt]; omega
  rw [this]; omega

/-- The scale's exponent for a group whose greatest magnitude is `a`, as `t = a / 448` gives it: the least integer power
    of two above `t`. -/
def expo (a t : EReal) : EReal :=
  if a = 0 then 0 else Ideal.liftRound Int.floor (Ideal.div (Ideal.log t) (Ideal.log (Ideal.ofBits .f32 0x40000000#32))) + Ideal.ofBits .f32 0x3F800000#32

/-- A greatest magnitude whose quotient by 448 is zero or a normal f32. -/
def Normal (a : EReal) : Prop := a = 0 ∨ Ideal.ofBits .f32 0x00800000#32 ≤ a * Ideal.ofBits .f32 0x3B124925#32

theorem ofBits_two : Ideal.ofBits .f32 0x40000000#32 = ((2 : ℝ) : EReal) := by
  have := ofBits_f32_pow 128 (by norm_num) (by norm_num)
  rw [show (BitVec.ofNat 32 128 <<< 23) = 0x40000000#32 from by decide] at this
  rw [this]; norm_num
theorem ofBits_one : Ideal.ofBits .f32 0x3F800000#32 = ((1 : ℝ) : EReal) := by
  have := ofBits_f32_pow 127 (by norm_num) (by norm_num)
  rw [show (BitVec.ofNat 32 127 <<< 23) = 0x3F800000#32 from by decide] at this
  rw [this]; norm_num
theorem ofBits_zero : Ideal.ofBits .f32 0x00000000#32 = (0 : EReal) := by
  have := ofBits_f32_pow_zero
  rwa [show (BitVec.ofNat 32 0 <<< 23) = 0x00000000#32 from by decide] at this
/-- The least normal f32. -/
theorem ofBits_tiny : Ideal.ofBits .f32 0x00800000#32 = (((2 : ℝ) ^ (-126 : ℤ) : ℝ) : EReal) := by
  have := ofBits_f32_pow 1 (by norm_num) (by norm_num)
  rw [show (BitVec.ofNat 32 1 <<< 23) = 0x00800000#32 from by decide] at this
  rw [this]; norm_num
/-- The constant 1/448 as rounded: a positive number below `2^-8`. -/
theorem ofBits_inv448 : Ideal.ofBits .f32 0x3B124925#32 = ((9586981 * (2 : ℝ) ^ (-32 : ℤ) : ℝ) : EReal) := by
  unfold Ideal.ofBits Ideal.ieee
  dsimp only [Nat.reduceAdd]
  rw [show ((0x3B124925#32 : BitVec 32).extractLsb' 23 8).toNat = 118 by decide, show ((0x3B124925#32 : BitVec 32).extractLsb' 0 23).toNat = 1198373 by decide,
    show ((0x3B124925#32 : BitVec 32).extractLsb' 31 1 == 1#1) = false by decide, if_neg (by norm_num), if_neg (by norm_num)]
  refine EReal.coe_eq_coe_iff.2 ?_
  norm_num
/-- The greatest finite bf16 number is below `2^128`. -/
theorem ofBits_bf16max : Ideal.ofBits .bf16 0x7F7F#16 = ((255 * (2 : ℝ) ^ (120 : ℤ) : ℝ) : EReal) := by
  unfold Ideal.ofBits Ideal.ieee
  dsimp only [Nat.reduceAdd]
  rw [show ((0x7F7F#16 : BitVec 16).extractLsb' 7 8).toNat = 254 by decide, show ((0x7F7F#16 : BitVec 16).extractLsb' 0 7).toNat = 127 by decide,
    show ((0x7F7F#16 : BitVec 16).extractLsb' 15 1 == 1#1) = false by decide, if_neg (by norm_num), if_neg (by norm_num)]
  refine EReal.coe_eq_coe_iff.2 ?_
  norm_num

/-- The exponent is an integer in a range where both `127 + e` and `127 - e` are exponent fields of normal numbers. -/
theorem expo_eq (a : ℝ) (h0 : 0 ≤ a) (h1 : a ≤ 255 * (2 : ℝ) ^ (120 : ℤ)) (hn : Normal (a : EReal)) :
    ∃ e : ℤ, -126 ≤ e ∧ e ≤ 120
      ∧ expo (a : EReal) ((a : EReal) * Ideal.ofBits .f32 0x3B124925#32) = ((e : ℝ) : EReal)
      ∧ (if (a : EReal) * Ideal.ofBits .f32 0x3B124925#32 = 0 then (0#32 : BitVec 32)
          else BitVec.ofNat 32 (count ((a : EReal) * Ideal.ofBits .f32 0x3B124925#32)) - 1#32 - 126#32) = BitVec.ofInt 32 e := by
  unfold Normal at hn
  rw [ofBits_tiny] at hn
  rw [ofBits_inv448, ← EReal.coe_mul] at hn ⊢
  have hc : (0 : ℝ) < 9586981 * (2 : ℝ) ^ (-32 : ℤ) := by positivity
  rcases h0.eq_or_lt with h | h
  · subst h
    refine ⟨0, by norm_num, by norm_num, ?_, ?_⟩
    · unfold expo; simp
    · simp
  have ht : 0 < a * (9586981 * (2 : ℝ) ^ (-32 : ℤ)) := by positivity
  have ht1 : a * (9586981 * (2 : ℝ) ^ (-32 : ℤ)) < 2 ^ (120 : ℕ) := by
    calc a * (9586981 * (2 : ℝ) ^ (-32 : ℤ)) ≤ (255 * (2 : ℝ) ^ (120 : ℤ)) * (9586981 * (2 : ℝ) ^ (-32 : ℤ)) := by gcongr
      _ < 2 ^ (120 : ℕ) := by norm_num
  have hcount := count_eq _ ht ht1
  set t := a * (9586981 * (2 : ℝ) ^ (-32 : ℤ)) with htd
  set n := ⌊Real.log t / Real.log 2⌋ with hn'
  have hlt : n < 120 := by
    rw [hn', Int.floor_lt, ← not_le, le_log2_iff t ht, not_le]
    exact_mod_cast ht1
  have hle : -126 ≤ n := by
    rw [hn', Int.le_floor, le_log2_iff t ht]
    rcases hn with hz | hz
    · exact absurd (by exact_mod_cast hz) h.ne'
    · exact_mod_cast hz
  refine ⟨n + 1, by omega, by omega, ?_, ?_⟩
  · unfold expo
    rw [if_neg (by exact_mod_cast h.ne'), ofBits_two, ofBits_one]
    have hl : Ideal.log (t : EReal) = ((Real.log t : ℝ) : EReal) := by
      show (if t ≤ 0 then (⊥ : EReal) else _) = _
      rw [if_neg (not_le.2 ht)]
    have hl2 : Ideal.log ((2 : ℝ) : EReal) = ((Real.log 2 : ℝ) : EReal) := by
      show (if (2 : ℝ) ≤ 0 then (⊥ : EReal) else _) = _
      rw [if_neg (by norm_num)]
    have h2 : Real.log 2 ≠ 0 := (Real.log_pos (by norm_num)).ne'
    rw [hl, hl2]
    unfold Ideal.div
    rw [if_neg (by exact_mod_cast h2), ← EReal.coe_inv, ← EReal.coe_mul]
    have hf : Ideal.liftRound Int.floor ((Real.log t * (Real.log 2)⁻¹ : ℝ) : EReal) = ((n : ℝ) : EReal) := by
      show (((⌊Real.log t * (Real.log 2)⁻¹⌋ : ℤ) : ℝ) : EReal) = _
      rw [hn', div_eq_mul_inv]
    rw [hf, ← EReal.coe_add]
    push_cast
    rfl
  · rw [if_neg (by exact_mod_cast ht.ne')]
    have : (BitVec.ofNat 32 (count (t : EReal))) = BitVec.ofInt 32 (count (t : EReal) : ℤ) := (BitVec.ofInt_natCast _ _).symm
    rw [this, hcount, show (1#32 : BitVec 32) = BitVec.ofInt 32 1 from rfl, show (126#32 : BitVec 32) = BitVec.ofInt 32 126 from rfl,
      ← ofInt_sub, ← ofInt_sub]
    congr 1
    omega

/-- The bits `(127 + e) · 2^23` denote `2^e`. -/
theorem pow_add (e : ℤ) (h1 : -126 ≤ e) (h2 : e ≤ 120) :
    Ideal.ofBits .f32 ((127#32 + BitVec.ofInt 32 e) <<< 23) = Ideal.exp2 ((e : ℝ) : EReal) := by
  have : 127#32 + BitVec.ofInt 32 e = BitVec.ofNat 32 (127 + e).toNat := by
    rw [show (127#32 : BitVec 32) = BitVec.ofInt 32 127 from rfl, ← BitVec.ofInt_add, ← BitVec.ofInt_natCast]
    congr 1; omega
  rw [this, ofBits_f32_pow _ (by omega) (by omega)]
  show _ = ((Real.rpow 2 (e : ℝ) : ℝ) : EReal)
  congr 1
  have h := Real.rpow_intCast (2 : ℝ) e
  rw [show Real.rpow 2 (e : ℝ) = (2 : ℝ) ^ (e : ℝ) from rfl, h]
  congr 1; omega

/-- The bits `(127 - e) · 2^23` denote `2^-e`. -/
theorem pow_sub (e : ℤ) (h1 : -126 ≤ e) (h2 : e ≤ 120) :
    Ideal.ofBits .f32 ((127#32 - BitVec.ofInt 32 e) <<< 23) = Ideal.exp2 (0 - ((e : ℝ) : EReal)) := by
  have : 127#32 - BitVec.ofInt 32 e = BitVec.ofNat 32 (127 - e).toNat := by
    rw [show (127#32 : BitVec 32) = BitVec.ofInt 32 127 from rfl, ← ofInt_sub, ← BitVec.ofInt_natCast]
    congr 1; omega
  rw [this, ofBits_f32_pow _ (by omega) (by omega), show (0 : EReal) - ((e : ℝ) : EReal) = (((-e : ℤ) : ℝ) : EReal) by
    rw [zero_sub, ← EReal.coe_neg]; push_cast; rfl]
  show _ = ((Real.rpow 2 (((-e : ℤ)) : ℝ) : ℝ) : EReal)
  congr 1
  have h := Real.rpow_intCast (2 : ℝ) (-e)
  rw [show Real.rpow 2 ((-e : ℤ) : ℝ) = (2 : ℝ) ^ ((-e : ℤ) : ℝ) from rfl, h]
  congr 1; omega

/-- A scale byte `b`, `1 ≤ b ≤ 254`, moved to the exponent place of a bf16, denotes two to the byte less 127. -/
theorem scale_byte (b : BitVec 8) (h1 : 1 ≤ b.toNat) (h2 : b.toNat ≤ 254) :
    Ideal.ofBits .bf16 ((b.setWidth 16) <<< 7) = Ideal.exp2 ((((b.setWidth 32 - 127#32).toInt : ℝ)) : EReal) := by
  have e1 : b.setWidth 16 = BitVec.ofNat 16 b.toNat := by
    apply BitVec.eq_of_toNat_eq; simp
  have e2 : (b.setWidth 32 - 127#32) = BitVec.ofInt 32 ((b.toNat : ℤ) - 127) := by
    rw [show (127#32 : BitVec 32) = BitVec.ofInt 32 127 from rfl, ofInt_sub, BitVec.ofInt_natCast]
    congr 1; apply BitVec.eq_of_toNat_eq; simp
  have e3 : (BitVec.ofInt 32 ((b.toNat : ℤ) - 127)).toInt = (b.toNat : ℤ) - 127 := by
    rw [BitVec.toInt_ofInt]
    apply Int.bmod_eq_of_le <;> omega
  rw [e1, ofBits_bf16_pow _ h1 h2, e2, e3]
  show _ = ((Real.rpow 2 (((b.toNat : ℤ) - 127 : ℤ) : ℝ) : ℝ) : EReal)
  congr 1
  exact (Real.rpow_intCast (2 : ℝ) _).symm

end Cert.Numbers

end
-- ==== Proof.Spec.lean ====
module

public import proofs.«01_k».proof.Proof.Numbers
public import Idealize.ShloMosaic.Lib.Pointwise

@[expose] public section

noncomputable section

namespace Cert.Spec

open Idealize.ShloMosaic

/-! # What the three results are

The activation is quantised in groups of 128 columns, the weight comes quantised in groups of 32; the product is of the
two dequantised matrices. -/

abbrev Sx : Shape := ⟨2, ![384, 1280]⟩
abbrev Sw : Shape := ⟨2, ![30336, 1280]⟩
abbrev Ss : Shape := ⟨2, ![30336, 40]⟩

/-- The greatest magnitude in row `r`, group `g` of the activation. -/
def amax (X : Sx.Idx → EReal) (r : Fin 384) (g : Fin 10) : EReal :=
  Finset.univ.fold max (Ideal.ofBits .f32 0xFF800000#32) fun l : Fin 128 =>
    max (X (ix2 r ⟨g.val * 128 + l.val, by omega⟩)) (-X (ix2 r ⟨g.val * 128 + l.val, by omega⟩))

/-- The exponent of the group's scale. -/
def qexp (X : Sx.Idx → EReal) (r : Fin 384) (g : Fin 10) : EReal :=
  Numbers.expo (amax X r g) (amax X r g * Ideal.ofBits .f32 0x3B124925#32)

/-- The code of an element: it, over its group's scale, clipped to ±448. -/
def code (X : Sx.Idx → EReal) (r : Fin 384) (c : Fin 1280) : EReal :=
  min (Ideal.ofBits .f32 0x43E00000#32) (max (Ideal.ofBits .f32 0xC3E00000#32)
    (X (ix2 r c) * Ideal.exp2 (0 - qexp X r ⟨c.val / 128, by omega⟩)))

/-- A group's scale. -/
def scale (X : Sx.Idx → EReal) (r : Fin 384) (g : Fin 10) : EReal := Ideal.exp2 (qexp X r g)

/-- The dequantised activation. -/
def xw (X : Sx.Idx → EReal) (r : Fin 384) (c : Fin 1280) : EReal := code X r c * scale X r ⟨c.val / 128, by omega⟩

/-- The dequantised weight. -/
def ww (W : Sw.Idx → EReal) (S : Ss.Idx → BitVec 8) (n : Fin 30336) (k : Fin 1280) : EReal :=
  W (ix2 n k) * Ideal.exp2 (((((S (ix2 n ⟨k.val / 32, by omega⟩)).setWidth 32 - 127#32).toInt : ℝ)) : EReal)

/-- The product. -/
def y (X : Sx.Idx → EReal) (W : Sw.Idx → EReal) (S : Ss.Idx → BitVec 8) (r : Fin 384) (n : Fin 30336) : EReal :=
  ∑ k : Fin 1280, xw X r k * ww W S n k

end Cert.Spec

end
-- ==== Proof.KernPay.lean ====
module

public import proofs.«01_k».proof.Proof.Spec
public import proofs.«01_k».proof.Proof.Tiles
public import Idealize.ShloMosaic.Lib.BitcastPair
public import Idealize.ShloMosaic.Lib.IndicatorCount

@[expose] public section

set_option maxRecDepth 16384

noncomputable section

namespace Cert.KernelIdeal.Proof

open Cert.KernelIdeal Cert.KernelIdeal.Gen
open Idealize.ShloMosaic

/-! # The tiles, element by element -/

/-- The greatest magnitude in row `r` of a tile. -/
def amaxT (x : Vec Ideal S384x128 .bf16) (r : Fin 384) : EReal :=
  Finset.univ.fold max (Ideal.ofBits .f32 0xFF800000#32) fun l : Fin 128 => max (x (ix2 r l)) (-x (ix2 r l))

/-- The tile holds finite numbers only. -/
def Tame {s : Shape} (x : s.Idx → EReal) : Prop := ∀ i, max (x i) (-x i) ≤ Ideal.ofBits .bf16 0x7F7F#16

theorem abs_nonneg (z : EReal) : 0 ≤ max z (-z) := by
  rcases le_total 0 z with h | h
  · exact h.trans (le_max_left _ _)
  · exact (EReal.neg_nonneg.2 h).trans (le_max_right _ _)

theorem ofBits_neginf : Ideal.ofBits .f32 0xFF800000#32 = ⊥ := by
  unfold Ideal.ofBits Ideal.ieee
  dsimp only [Nat.reduceAdd]
  rw [show ((0xFF800000#32 : BitVec 32).extractLsb' 23 8).toNat = 255 by decide, show ((0xFF800000#32 : BitVec 32).extractLsb' 0 23).toNat = 0 by decide,
    show ((0xFF800000#32 : BitVec 32).extractLsb' 31 1 == 1#1) = true by decide, if_pos (by norm_num), if_pos rfl, if_pos rfl]

theorem amaxT_nonneg (x : Vec Ideal S384x128 .bf16) (r : Fin 384) : 0 ≤ amaxT x r := by
  unfold amaxT
  rw [Finset.le_fold_max]
  exact Or.inr ⟨0, Finset.mem_univ _, abs_nonneg _⟩

theorem amaxT_le (x : Vec Ideal S384x128 .bf16) (hx : Tame x) (r : Fin 384) : amaxT x r ≤ Ideal.ofBits .bf16 0x7F7F#16 := by
  unfold amaxT
  rw [Finset.fold_max_le, ofBits_neginf]
  exact ⟨bot_le, fun l _ => hx _⟩

/-- The exponent of a tame row: an integer both programs agree on. -/
theorem expo_tame (a : EReal) (h0 : 0 ≤ a) (h1 : a ≤ Ideal.ofBits .bf16 0x7F7F#16) (hn : Numbers.Normal a) :
    ∃ e : ℤ, -126 ≤ e ∧ e ≤ 120
      ∧ Numbers.expo a (a * Ideal.ofBits .f32 0x3B124925#32) = ((e : ℝ) : EReal)
      ∧ (if a * Ideal.ofBits .f32 0x3B124925#32 = 0 then (0#32 : BitVec 32)
          else BitVec.ofNat 32 (Numbers.count (a * Ideal.ofBits .f32 0x3B124925#32)) - 1#32 - 126#32) = BitVec.ofInt 32 e := by
  rw [Numbers.ofBits_bf16max] at h1
  have hb : a ≠ ⊥ := fun h => by rw [h] at h0; exact absurd (le_bot_iff.1 h0) (by simp)
  have ht : a ≠ ⊤ := fun h => by rw [h] at h1; exact absurd (top_le_iff.1 h1) (EReal.coe_ne_top _)
  lift a to ℝ using ⟨ht, hb⟩
  exact Numbers.expo_eq a (by exact_mod_cast h0) (by exact_mod_cast h1) hn

/-- The counted exponent of a row. -/
theorem pay4_apply (x : Vec Ideal S384x128 .bf16) (r : Fin 384) (z : Fin 1) :
    k0_pay4 (F := Ideal) x (ix2 r z) = if amaxT x r * Ideal.ofBits .f32 0x3B124925#32 = 0 then (0#32 : BitVec 32)
          else BitVec.ofNat 32 (Numbers.count (amaxT x r * Ideal.ofBits .f32 0x3B124925#32)) - 1#32 - 126#32 := by
  pointwise [k0_pay4, k0_pay3]
  rw [IndicatorCount.fold_addi_setWidth_eq_card]
  have : ∀ t : EReal, (Finset.univ.filter fun k : Fin 256 => BitVec.ofBool (decide (Ideal.ofBits FTy.f32 (IntOp.shli ArithUnit.vector (BitVec.ofNat 32 ↑k) 23#32) ≤ t)) = 1#1).card
      = Numbers.count t := by
    intro t
    unfold Numbers.count
    congr 1
    refine Finset.filter_congr fun k _ => ?_
    rw [show IntOp.shli ArithUnit.vector (BitVec.ofNat 32 ↑k) 23#32 = BitVec.ofNat 32 k.val <<< 23 from rfl]
    by_cases h : Ideal.ofBits FTy.f32 (BitVec.ofNat 32 k.val <<< 23) ≤ t <;> simp [h]
  rw [this]
  rfl

/-- The scale of a row. -/
theorem pay5_apply (x : Vec Ideal S384x128 .bf16) (hx : Tame x) (r : Fin 384) (hn : Numbers.Normal (amaxT x r)) (z : Fin 1) :
    k0_pay5 (F := Ideal) x (ix2 r z) = Ideal.exp2 (Numbers.expo (amaxT x r) (amaxT x r * Ideal.ofBits .f32 0x3B124925#32)) := by
  obtain ⟨e, h1, h2, h3, h4⟩ := expo_tame _ (amaxT_nonneg x r) (amaxT_le x hx r) hn
  pointwise [k0_pay5]
  rw [pay4_apply, h3, h4, ← Numbers.pow_add e h1 h2]
  rfl

/-- The code of an element. -/
theorem pay6_apply (x : Vec Ideal S384x128 .bf16) (hx : Tame x) (r : Fin 384) (hn : Numbers.Normal (amaxT x r)) (c : Fin 128) :
    k0_pay6 (F := Ideal) x (ix2 r c) = min (Ideal.ofBits .f32 0x43E00000#32) (max (Ideal.ofBits .f32 0xC3E00000#32)
      (x (ix2 r c) * Ideal.exp2 (0 - Numbers.expo (amaxT x r) (amaxT x r * Ideal.ofBits .f32 0x3B124925#32)))) := by
  obtain ⟨e, h1, h2, h3, h4⟩ := expo_tame _ (amaxT_nonneg x r) (amaxT_le x hx r) hn
  pointwise [k0_pay6, k0_pay3]
  rw [pay4_apply, h3, h4, ← Numbers.pow_sub e h1 h2]
  rfl

/-- The dequantised element. -/
theorem xwTile_apply (x : Vec Ideal S384x128 .bf16) (r : Fin 384) (c : Fin 128) :
    xwTile (F := Ideal) x (ix2 r c) = k0_pay6 (F := Ideal) x (ix2 r c) * k0_pay5 (F := Ideal) x (ix2 r 0) := by
  pointwise [xwTile, k0_pay7]

/-- The block product at an element. -/
theorem pay2_apply (x : Vec Ideal S384x1280 .bf16) (w : Vec Ideal S1792x1280 .bf16) (r : Fin 384) (c : Fin 1792) :
    k0_pay2 (F := Ideal) x w (ix2 r c) = ∑ k : Fin 1280, x (ix2 r k) * w (ix2 c k) := by
  pointwise [k0_pay2]

/-- The scale column of lane word `i`, as the scalar words compute it. -/
def laneWord (c i : BitVec 32) : BitVec 32 :=
  let d := Scalar.select (IntOp.andi
      (IntOp.cmpi CmpIPredicate.ne
        (IntOp.subi (BitVec.setWidth 32 (IntOp.cmpi CmpIPredicate.sgt i 0#32))
          (BitVec.setWidth 32 (IntOp.cmpi CmpIPredicate.slt i 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector i 32#32) 0#32))
    (IntOp.subi (IntOp.divsi ArithUnit.vector i 32#32) 1#32)
    (IntOp.divsi ArithUnit.vector i 32#32)
  Scalar.select (IntOp.cmpi CmpIPredicate.slt (IntOp.addi d c) 0#32) (IntOp.addi (IntOp.addi d c) 128#32) (IntOp.addi d c)

theorem laneWord_eq : ∀ (g : Fin 10) (l : Fin 128), laneWord (BitVec.ofNat 32 (4 * g.val)) (BitVec.ofNat 32 l.val) = BitVec.ofNat 32 (l.val / 32 + 4 * g.val) := by
  decide +kernel

/-- Lane `l` of the weight tile of group `g` reads scale column `l / 32 + 4 g`. -/
theorem scaleLane_apply (g : Fin 10) (r : Fin 896) (l : Fin 128) :
    scaleLane (BitVec.ofNat 32 (4 * g.val)) (ix2 r l) = BitVec.ofNat 32 (l.val / 32 + 4 * g.val) := by
  rw [← laneWord_eq]
  pointwise [scaleLane]
  rfl

/-- Words made of pairs of rows, gathered along the lanes and taken apart again, are the rows gathered along the lanes. -/
theorem gather_pairs (x : S1792x128.Idx → BitVec 16) (idx : IVec S896x128 32) (r : Fin 1792) (l : Fin 128) (w : Fin 128)
    (hw : ∀ r' : Fin 896, idx (ix2 r' l) = BitVec.ofNat 32 w.val) (h : S896x128.Bitcasts 32 S1792x128 16) (h' : S1792x128.Bitcasts 16 S896x128 32) :
    bitcast S1792x128 16 (dynamicGather 1 (bitcast S896x128 32 x h') idx) h (ix2 r l) = x (ix2 r w) := by
  have hr : S1792x128.row (ix2 r l) = r.val := rfl
  have hq0 : r.val / 2 < 896 := by omega
  rw [bitcast_32_16]
  have e1 : ∀ hp, h.srcIdx (ix2 r l) (S1792x128.row (ix2 r l) / 2) hp = ix2 (⟨r.val / 2, hq0⟩ : Fin 896) l := by
    intro hp
    funext a; apply Fin.ext
    match a with
    | ⟨0, _⟩ => rfl
    | ⟨1, _⟩ => rfl
  rw [e1]
  have e2 : dynamicGather 1 (bitcast S896x128 32 x h') idx (ix2 (⟨r.val / 2, hq0⟩ : Fin 896) l)
      = bitcast S896x128 32 x h' (ix2 (⟨r.val / 2, hq0⟩ : Fin 896) w) := by
    pointwise
    congr 1
    rw [hw]
    congr 1
    apply Fin.ext
    show (BitVec.ofNat 32 w.val).toNat % 128 = w.val
    rw [BitVec.toNat_ofNat]; omega
  rw [e2, bitcast_16_32]
  have e3 : ∀ (q : ℕ) (hq : 2 * (r.val / 2) + q < 1792) hp, h'.srcIdx (ix2 (⟨r.val / 2, hq0⟩ : Fin 896) w) (2 * S896x128.row (ix2 (⟨r.val / 2, hq0⟩ : Fin 896) w) + q) hp
      = ix2 (⟨2 * (r.val / 2) + q, hq⟩ : Fin 1792) w := by
    intro q hq hp
    funext a; apply Fin.ext
    match a with
    | ⟨0, _⟩ => rfl
    | ⟨1, _⟩ => rfl
  rw [e3 1 (by omega), show h'.srcIdx (ix2 (⟨r.val / 2, hq0⟩ : Fin 896) w) (2 * S896x128.row (ix2 (⟨r.val / 2, hq0⟩ : Fin 896) w)) _
    = ix2 (⟨2 * (r.val / 2) + 0, by omega⟩ : Fin 1792) w from e3 0 (by omega) _, hr]
  rcases Nat.mod_two_eq_zero_or_one r.val with hm | hm
  · rw [hm, show (⟨2 * (r.val / 2) + 0, by omega⟩ : Fin 1792) = r from Fin.ext (by dsimp only; omega)]
    apply BitVec.eq_of_getLsbD_eq
    intro i hi
    rw [BitVec.getLsbD_extractLsb', BitVec.getLsbD_append]
    simp [hi]
  · rw [hm, show (⟨2 * (r.val / 2) + 1, by omega⟩ : Fin 1792) = r from Fin.ext (by dsimp only; omega)]
    apply BitVec.eq_of_getLsbD_eq
    intro i hi
    rw [BitVec.getLsbD_extractLsb', BitVec.getLsbD_append]
    simp [hi]

/-- An element of a dequantised weight tile: its code times its scale. -/
theorem wTile_apply (g : Fin 10) (s : Vec Ideal S1792x128 .i8) (w : Vec Ideal S1792x128 .fp8e4m3) (r : Fin 1792) (l : Fin 128) :
    wTile (F := Ideal) (BitVec.ofNat 32 (4 * g.val)) s w (ix2 r l)
      = w (ix2 r l) * Ideal.ofBits .bf16 ((s (ix2 r (⟨l.val / 32 + 4 * g.val, by omega⟩ : Fin 128)) : BitVec 8).setWidth 16 <<< 7) := by
  pointwise [wTile, sTile, k0_pay70]
  rw [gather_pairs _ _ r l ⟨l.val / 32 + 4 * g.val, by omega⟩ (fun r' => scaleLane_apply g r' l)]
  pointwise
  rfl

end Cert.KernelIdeal.Proof

end
-- ==== Proof.Blocks.lean ====
module

public import proofs.«01_k».proof.Proof.KernPay

@[expose] public section

set_option maxRecDepth 16384

noncomputable section

namespace Cert.KernelIdeal.Proof

open Cert.KernelIdeal Cert.KernelIdeal.Gen
open Idealize.ShloMosaic

/-! # The blocks, element by element -/

/-- Group `g` of 128 columns of the activation, read out of its block. -/
theorem ld_group (x : Vec Ideal S384x1280 .bf16) (o : ℕ) (inb : ∀ a, (![0, o] : Fin 2 → ℕ) a + S384x128.size a ≤ S384x1280.size a)
    (r : Fin 384) (l : Fin 128) (c : Fin 1280) (hc : c.val = o + l.val) :
    View.ld x (Rect.unit (s := S384x1280) ![0, o] S384x128.size inb) (ix2 r l) = x (ix2 r c) :=
  View.ld_unit_apply_of x _ _ _ _ _ fun a => by
    match a with
    | ⟨0, _⟩ => show r.val = 0 + r.val; omega
    | ⟨1, _⟩ => exact hc

/-- A tile of a tame block is tame. -/
theorem tame_ld (x : Vec Ideal S384x1280 .bf16) (hx : Tame x) (o : ℕ) (inb : ∀ a, (![0, o] : Fin 2 → ℕ) a + S384x128.size a ≤ S384x1280.size a) :
    Tame (s := S384x128) (View.ld x (Rect.unit (s := S384x1280) ![0, o] S384x128.size inb)) := fun i => hx _

/-- The greatest magnitude of a tile's row is the group's. -/
theorem amaxT_ld (x : Vec Ideal S384x1280 .bf16) (o : ℕ) (inb : ∀ a, (![0, o] : Fin 2 → ℕ) a + S384x128.size a ≤ S384x1280.size a)
    (r : Fin 384) (g : Fin 10) (hg : o = g.val * 128) :
    amaxT (View.ld x (Rect.unit (s := S384x1280) ![0, o] S384x128.size inb)) r = Spec.amax x r g := by
  unfold amaxT Spec.amax
  congr 1
  funext l
  rw [ld_group x o inb r l ⟨g.val * 128 + l.val, by omega⟩ (by dsimp only; omega)]

/-- A block of finite numbers whose groups' greatest magnitudes are zero or not too small for the quantiser. -/
def Fit (x : Spec.Sx.Idx → EReal) : Prop := Tame x ∧ ∀ r g, Numbers.Normal (Spec.amax x r g)

/-- A tile's row of a fit block is one. -/
theorem normal_ld (x : Vec Ideal S384x1280 .bf16) (hx : Fit x) (o : ℕ) (inb : ∀ a, (![0, o] : Fin 2 → ℕ) a + S384x128.size a ≤ S384x1280.size a)
    (r : Fin 384) (g : Fin 10) (hg : o = g.val * 128) :
    Numbers.Normal (amaxT (View.ld x (Rect.unit (s := S384x1280) ![0, o] S384x128.size inb)) r) := by
  rw [amaxT_ld x o inb r g hg]; exact hx.2 r g

/-- The scale of a tile's row. -/
theorem scale_tile (x : Vec Ideal S384x1280 .bf16) (hx : Fit x) (o : ℕ) (inb : ∀ a, (![0, o] : Fin 2 → ℕ) a + S384x128.size a ≤ S384x1280.size a)
    (r : Fin 384) (z : Fin 1) (g : Fin 10) (hg : o = g.val * 128) :
    k0_pay5 (F := Ideal) (View.ld x (Rect.unit (s := S384x1280) ![0, o] S384x128.size inb)) (ix2 r z) = Spec.scale x r g := by
  rw [pay5_apply _ (tame_ld x hx.1 o inb) r (normal_ld x hx o inb r g hg), amaxT_ld x o inb r g hg]; rfl

/-- The code of an element of a tile. -/
theorem code_tile (x : Vec Ideal S384x1280 .bf16) (hx : Fit x) (o : ℕ) (inb : ∀ a, (![0, o] : Fin 2 → ℕ) a + S384x128.size a ≤ S384x1280.size a)
    (r : Fin 384) (l : Fin 128) (c : Fin 1280) (hc : c.val = o + l.val) (ho : o % 128 = 0) :
    k0_pay6 (F := Ideal) (View.ld x (Rect.unit (s := S384x1280) ![0, o] S384x128.size inb)) (ix2 r l) = Spec.code x r c := by
  rw [pay6_apply _ (tame_ld x hx.1 o inb) r (normal_ld x hx o inb r ⟨c.val / 128, by omega⟩ (by dsimp only; omega)), ld_group x o inb r l c hc, amaxT_ld x o inb r ⟨c.val / 128, by omega⟩ (by dsimp only; omega)]; rfl

/-- The dequantised element of a tile. -/
theorem xw_tile (x : Vec Ideal S384x1280 .bf16) (hx : Fit x) (o : ℕ) (inb : ∀ a, (![0, o] : Fin 2 → ℕ) a + S384x128.size a ≤ S384x1280.size a)
    (r : Fin 384) (l : Fin 128) (c : Fin 1280) (hc : c.val = o + l.val) (ho : o % 128 = 0) :
    xwTile (F := Ideal) (View.ld x (Rect.unit (s := S384x1280) ![0, o] S384x128.size inb)) (ix2 r l) = Spec.xw x r c := by
  rw [xwTile_apply, code_tile x hx o inb r l c hc ho, scale_tile x hx o inb r 0 ⟨c.val / 128, by omega⟩ (by dsimp only; omega)]; rfl

/-- A dequantised element of a weight tile, by its place in the block. -/
theorem ww_tile (w : Vec Ideal S1792x1280 .fp8e4m3) (s : Vec Ideal S1792x128 .i8) (v : BitVec 32) (o : ℕ)
    (inb : ∀ a, (![0, o] : Fin 2 → ℕ) a + S1792x128.size a ≤ S1792x1280.size a) (ho : o % 128 = 0) (hv : v = BitVec.ofNat 32 (o / 32))
    (r : Fin 1792) (l : Fin 128) (c : Fin 1280) (hc : c.val = o + l.val) :
    wTile (F := Ideal) v s (View.ld w (Rect.unit (s := S1792x1280) ![0, o] S1792x128.size inb)) (ix2 r l)
      = w (ix2 r c) * Ideal.ofBits .bf16 ((s (ix2 r (⟨c.val / 32, by omega⟩ : Fin 128)) : BitVec 8).setWidth 16 <<< 7) := by
  have hg : o / 128 < 10 := by omega
  obtain rfl : v = BitVec.ofNat 32 (4 * (⟨o / 128, hg⟩ : Fin 10).val) := by
    rw [hv]; congr 1; dsimp only; omega
  rw [wTile_apply]
  congr 1
  · exact View.ld_unit_apply_of w _ _ _ _ _ fun a => by
      match a with
      | ⟨0, _⟩ => show r.val = 0 + r.val; omega
      | ⟨1, _⟩ => exact hc
  · rw [show (⟨l.val / 32 + 4 * (⟨o / 128, hg⟩ : Fin 10).val, by dsimp only; omega⟩ : Fin 128) = ⟨c.val / 32, by omega⟩ from Fin.ext (by dsimp only; omega)]

/-- The codes of the activation block. -/
theorem codesBlk_apply (x : Vec Ideal S384x1280 .bf16) (hx : Fit x) (r : Fin 384) (c : Fin 1280) :
    codesBlk (F := Ideal) x (ix2 r c) = Spec.code x r c := by
  unfold codesBlk
  canon_tiles z h
  all_goals
    idx_vars z
    obtain rfl : r = z0 := Fin.ext h0
    exact code_tile x hx _ _ r z1 c (by omega) (by norm_num)

/-- The scales of the activation block. -/
theorem scaleBlk_apply (x : Vec Ideal S384x1280 .bf16) (hx : Fit x) (r : Fin 384) (g : Fin 10) :
    scaleBlk (F := Ideal) x (ix2 r g) = Spec.scale x r g := by
  unfold scaleBlk
  canon_tiles z h
  all_goals
    idx_vars z
    obtain rfl : r = z0 := Fin.ext h0
    exact scale_tile x hx _ _ r z1 g (by omega)

/-- The dequantised activation block. -/
theorem xwBlk_apply (x : Vec Ideal S384x1280 .bf16) (hx : Fit x) (r : Fin 384) (c : Fin 1280) :
    xwBlk (F := Ideal) x (ix2 r c) = Spec.xw x r c := by
  unfold xwBlk
  canon_tiles z h
  all_goals
    idx_vars z
    obtain rfl : r = z0 := Fin.ext h0
    exact xw_tile x hx _ _ r z1 c (by omega) (by norm_num)

/-- The dequantised weight block. -/
theorem wwBlk_apply (w : Vec Ideal S1792x1280 .fp8e4m3) (s : Vec Ideal S1792x128 .i8) (r : Fin 1792) (c : Fin 1280) :
    wwBlk (F := Ideal) w s (ix2 r c)
      = w (ix2 r c) * Ideal.ofBits .bf16 ((s (ix2 r (⟨c.val / 32, by omega⟩ : Fin 128)) : BitVec 8).setWidth 16 <<< 7) := by
  unfold wwBlk
  canon_tiles z h
  all_goals
    idx_vars z
    obtain rfl : r = z0 := Fin.ext h0
    exact ww_tile w s _ _ _ (by norm_num) (by rfl) r z1 c (by omega)

/-- The result block. -/
theorem yBlk_apply (x : Vec Ideal S384x1280 .bf16) (w : Vec Ideal S1792x1280 .fp8e4m3) (s : Vec Ideal S1792x128 .i8) (r : Fin 384) (n : Fin 1792) :
    yBlk (F := Ideal) x w s (ix2 r n) = ∑ k : Fin 1280, x (ix2 r k)
      * (w (ix2 n k) * Ideal.ofBits .bf16 ((s (ix2 n (⟨k.val / 32, by omega⟩ : Fin 128)) : BitVec 8).setWidth 16 <<< 7)) := by
  unfold yBlk
  rw [pay2_apply]
  exact Finset.sum_congr rfl fun k _ => by rw [wwBlk_apply]

end Cert.KernelIdeal.Proof

end
-- ==== Proof.Read.lean ====
module

public import proofs.«01_k».proof.Proof.Track
public import proofs.«01_k».proof.Proof.Blocks
public import Idealize.ShloMosaic.Lib.Pipeline.ValueKit

@[expose] public section

set_option maxRecDepth 16384

noncomputable section

namespace Cert.KernelIdeal.Track

open Cert.KernelIdeal Cert.KernelIdeal.Gen
open Cert.KernelIdeal.Proof hiding frame
open Idealize.ShloMosaic Idealize.ShloMosaic.TcCoe
open Idealize.ShloMosaic.Pipeline (Dat Cfg Window)

variable (m : (ℓ : Loc nD τ sig) → Buf (Elt Ideal) ℓ)

/-! # The blocks and the arrays they come from -/

/-- The blocks' places in their arrays, and how much of each lies inside. -/
theorem idx : ∀ t : Fin cfg0.N, win0_0.index t = ![0, 0] ∧ win0_1.index t = ![t.val, 0] ∧ win0_2.index t = ![t.val, 0]
    ∧ win0_3.index t = ![0, t.val] ∧ win0_4.index t = ![0, 0] ∧ win0_5.index t = ![0, 0] :=
  (by decide +kernel : ∀ t : Fin grid0.N, _)

theorem xsz : ∀ t : Fin cfg0.N, win0_1.xsize (grid0.coords t) = ![min 1792 (30336 - t.val * 1792), 1280]
    ∧ win0_2.xsize (grid0.coords t) = ![min 1792 (30336 - t.val * 1792), 40]
    ∧ win0_3.xsize (grid0.coords t) = ![384, min 1792 (30336 - t.val * 1792)] :=
  (by decide +kernel : ∀ t : Fin grid0.N, _)

/-- The weight's codes, as the region finds them: as launched. -/
def warr (c : Dev nD) : Spec.Sw.Idx → EReal := V m c main_arg1
/-- The weight's scale bytes, likewise. -/
def sarr (c : Dev nD) : Spec.Ss.Idx → BitVec 8 := V m c main_arg2

/-- A row of the weight's block that lies inside the weight is its row there, whatever lies past the weight's end. -/
theorem fill_1 (c : Dev nD) (t : Fin cfg0.N) (d : Vec Ideal S1792x1280 .fp8e4m3) (n : Fin 1792) (k : Fin 1280) (N : Fin 30336) (hN : N.val = t.val * 1792 + n.val) :
    win0_1.fill (grid0.coords t) d (iblk m c 1 t) (ix2 n k) = warr m c (ix2 N k) := by
  have hm : win0_1.moved (grid0.coords t) (ix2 n k) = true := by
    rw [win0_1.moved_iff, (xsz t).1]
    intro a
    match a with
    | ⟨0, _⟩ => show n.val < min 1792 (30336 - t.val * 1792); omega
    | ⟨1, _⟩ => exact k.isLt
  unfold Window.fill
  rw [dif_pos hm]
  show _ = V m c main_arg1 (ix2 N k)
  blk_ext [iblk, (idx t).2.1]

theorem fill_2 (c : Dev nD) (t : Fin cfg0.N) (d : Vec Ideal S1792x128 .i8) (n : Fin 1792) (k : Fin 128) (N : Fin 30336) (K : Fin 40) (hN : N.val = t.val * 1792 + n.val) (hK : K.val = k.val) :
    win0_2.fill (grid0.coords t) d (iblk m c 2 t) (ix2 n k) = sarr m c (ix2 N K) := by
  have hm : win0_2.moved (grid0.coords t) (ix2 n k) = true := by
    rw [win0_2.moved_iff, (xsz t).2.1]
    intro a
    match a with
    | ⟨0, _⟩ => show n.val < min 1792 (30336 - t.val * 1792); omega
    | ⟨1, _⟩ => show k.val < 40; omega
  unfold Window.fill
  rw [dif_pos hm]
  show _ = V m c main_arg2 (ix2 N K)
  blk_ext [iblk, (idx t).2.2.1]

/-- A column of the result's block that lies inside the result. -/
theorem y_block (c : Dev nD) (t : Fin cfg0.N) (d1 : Vec Ideal S1792x1280 .fp8e4m3) (d2 : Vec Ideal S1792x128 .i8) (r : Fin 384) (n : Fin 1792) (N : Fin 30336) (hN : N.val = t.val * 1792 + n.val) :
    yBlk (F := Ideal) (xwBlk (xblk m c)) (win0_1.fill (grid0.coords t) d1 (iblk m c 1 t)) (win0_2.fill (grid0.coords t) d2 (iblk m c 2 t)) (ix2 r n)
      = ∑ k : Fin 1280, xwBlk (F := Ideal) (xblk m c) (ix2 r k) * (warr m c (ix2 N k)
        * Ideal.ofBits .bf16 ((sarr m c (ix2 N (⟨k.val / 32, by omega⟩ : Fin 40))).setWidth 16 <<< 7)) := by
  rw [yBlk_apply]
  exact Finset.sum_congr rfl fun k _ => by rw [fill_1 m c t d1 n k N hN, fill_2 m c t d2 n _ N ⟨k.val / 32, by omega⟩ hN rfl]

/-- The words past the weight's end do not reach the result. -/
theorem hloc : Local m := by
  intro c t d1 d2
  funext j
  have h3 := (xsz t).2.2
  have hj0 : (j 0).val < 384 := (j 0).isLt.trans_eq (congrFun h3 0)
  have hj1 : (j 1).val < min 1792 (30336 - t.val * 1792) := (j 1).isLt.trans_eq (congrFun h3 1)
  have e : win0_3.xinj (grid0.coords t) j = ix2 (⟨(j 0).val, hj0⟩ : Fin 384) (⟨(j 1).val, by omega⟩ : Fin 1792) := by
    funext a; apply Fin.ext
    match a with
    | ⟨0, _⟩ => rfl
    | ⟨1, _⟩ => rfl
  show yBlk _ _ _ (win0_3.xinj (grid0.coords t) j) = yBlk _ _ _ (win0_3.xinj (grid0.coords t) j)
  rw [e]
  unfold wblk sblk
  rw [y_block m c t d1 d2 _ _ ⟨t.val * 1792 + (j 1).val, by omega⟩ rfl, y_block m c t _ _ _ _ ⟨t.val * 1792 + (j 1).val, by omega⟩ rfl]

/-- The activation argument on core `c`. -/
def x3 (c : Dev nD) : S1x384x1280.Idx → EReal := m ((c : Thread nD τ).loc main_arg0)

/-- The array the activation window reads is the activation argument without its first axis. -/
theorem V_v0 (c : Dev nD) : (V m c main_v0 : S384x1280.Idx → EReal) = shapeCast S384x1280 (x3 m c) shapeCasts_S1x384x1280_S384x1280 := by
  rfl

/-- The activation block is the activation argument without its first axis. -/
theorem xblk_apply (c : Dev nD) (r : Fin 384) (k : Fin 1280) : xblk m c (ix2 r k) = x3 m c (ix3 (0 : Fin 1) r k) := by
  have e : xblk m c (ix2 r k) = (V m c main_v0 : S384x1280.Idx → EReal) (ix2 r k) := by
    obtain ⟨t⟩ : Nonempty (Fin cfg0.N) := ⟨⟨0, by rw [show cfg0.N = 17 from N_0]; omega⟩⟩
    rw [← iblk_0 m c t]
    blk_ext [iblk, (idx t).1]
  rw [e, V_v0]
  generalize x3 m c = x
  pointwise

end Cert.KernelIdeal.Track

end
-- ==== Proof.Arrays.lean ====
module

public import proofs.«01_k».proof.Proof.Read

@[expose] public section

set_option maxRecDepth 16384

noncomputable section

namespace Cert.KernelIdeal.Track

open Cert.KernelIdeal Cert.KernelIdeal.Gen
open Cert.KernelIdeal.Proof hiding frame
open Idealize.ShloMosaic Idealize.ShloMosaic.TcCoe
open Idealize.ShloMosaic.Pipeline (Dat Cfg Window)

variable (m : (ℓ : Loc nD τ sig) → Buf (Elt Ideal) ℓ)

/-! # The three arrays the region leaves -/

/-- The codes' only block is its whole array. -/
theorem emb_4 (t : Fin cfg0.N) (A : S384x1280.Idx → EReal) (r : Fin 384) (k : Fin 1280) : A ((win0_4.blk t).view.emb (ix2 r k)) = A (ix2 r k) := by
  blk_ext [(idx t).2.2.2.2.1]

/-- The scales' only block is its whole array. -/
theorem emb_5 (t : Fin cfg0.N) (A : S384x10.Idx → EReal) (r : Fin 384) (k : Fin 10) : A ((win0_5.blk t).view.emb (ix2 r k)) = A (ix2 r k) := by
  blk_ext [(idx t).2.2.2.2.2]

/-- The codes' array. -/
theorem arr_4 (c : Dev nD) (hx : Fit (xblk m c)) :
    ((vdats m 0 c).arrAt 4 cfg0.N : S384x1280.Idx → EReal) = fun i => Spec.code (xblk m c) (i 0) (i 1) := by
  refine (vdats m 0 c).arrAt_eq_of_covers 4 _ (by decide +kernel) fun t hf y => ?_
  blk_simp
  rw [vafter_4]
  obtain ⟨r, k, rfl⟩ : ∃ (r : Fin 384) (k : Fin 1280), y = ix2 r k := ⟨y 0, y 1, eq_ix2 (n0 := 384) (n1 := 1280) y⟩
  exact (codesBlk_apply _ hx r k).trans (emb_4 t (fun i => Spec.code (xblk m c) (i 0) (i 1)) r k).symm

/-- The scales' array. -/
theorem arr_5 (c : Dev nD) (hx : Fit (xblk m c)) :
    ((vdats m 0 c).arrAt 5 cfg0.N : S384x10.Idx → EReal) = fun i => Spec.scale (xblk m c) (i 0) (i 1) := by
  refine (vdats m 0 c).arrAt_eq_of_covers 5 _ (by decide +kernel) fun t hf y => ?_
  blk_simp
  rw [vafter_5]
  obtain ⟨r, k, rfl⟩ : ∃ (r : Fin 384) (k : Fin 10), y = ix2 r k := ⟨y 0, y 1, eq_ix2 (n0 := 384) (n1 := 10) y⟩
  exact (scaleBlk_apply _ hx r k).trans (emb_5 t (fun i => Spec.scale (xblk m c) (i 0) (i 1)) r k).symm

/-- The product's array. -/
theorem arr_3 (c : Dev nD) (hx : Fit (xblk m c)) (hs : ∀ i, 1 ≤ (sarr m c i).toNat ∧ (sarr m c i).toNat ≤ 254) :
    ((vdats m 0 c).arrAt 3 cfg0.N : S384x30336.Idx → EReal) = fun i => Spec.y (xblk m c) (warr m c) (sarr m c) (i 0) (i 1) := by
  refine (vdats m 0 c).arrAt_eq_of_covers 3 _ (by decide +kernel) fun t hf y => ?_
  blk_simp
  rw [vafter_3]
  have h3 := (xsz t).2.2
  have hj0 : (y 0).val < 384 := (y 0).isLt.trans_eq (congrFun h3 0)
  have hj1 : (y 1).val < min 1792 (30336 - t.val * 1792) := (y 1).isLt.trans_eq (congrFun h3 1)
  have e : (cfg0.win 3).xinj (cfg0.grid.coords t) y = ix2 (⟨(y 0).val, hj0⟩ : Fin 384) (⟨(y 1).val, by omega⟩ : Fin 1792) := by
    funext a; apply Fin.ext
    match a with
    | ⟨0, _⟩ => rfl
    | ⟨1, _⟩ => rfl
  have e' : (win0_3.blk t).view.emb y = ix2 (⟨(y 0).val, hj0⟩ : Fin 384) (⟨t.val * 1792 + (y 1).val, by omega⟩ : Fin 30336) := by
    funext a; apply Fin.ext
    match a with
    | ⟨0, _⟩ => blk_simp [(idx t).2.2.2.1]; rfl
    | ⟨1, _⟩ => blk_simp [(idx t).2.2.2.1]; rfl
  rw [e, e']
  unfold wblk sblk
  rw [y_block m c t _ _ _ _ ⟨t.val * 1792 + (y 1).val, by omega⟩ rfl]
  show _ = Spec.y (xblk m c) (warr m c) (sarr m c) ⟨(y 0).val, hj0⟩ ⟨t.val * 1792 + (y 1).val, by omega⟩
  refine Finset.sum_congr rfl fun k _ => ?_
  rw [xwBlk_apply _ hx, Numbers.scale_byte _ (hs _).1 (hs _).2]
  rfl

end Cert.KernelIdeal.Track

end
-- ==== Proof.Results.lean ====
module

public import proofs.«01_k».proof.Proof.Spec

@[expose] public section

noncomputable section

namespace Cert.Spec

open Idealize.ShloMosaic

/-! # The three results, with the leading axis of extent one that the arguments and results carry -/

abbrev Sx3 : Shape := ⟨3, ![1, 384, 1280]⟩

/-- The activation without its first axis. -/
def flat (x : Sx3.Idx → EReal) : Sx.Idx → EReal := fun i => x (ix3 (0 : Fin 1) (i 0) (i 1))

/-- The product. -/
def res0 (x : Sx3.Idx → EReal) (w : Sw.Idx → EReal) (s : Ss.Idx → BitVec 8) : (⟨3, ![1, 384, 30336]⟩ : Shape).Idx → EReal :=
  fun j => y (flat x) w s (j 1) (j 2)

/-- The activation's codes. -/
def res1 (x : Sx3.Idx → EReal) : Sx3.Idx → EReal := fun j => code (flat x) (j 1) (j 2)

/-- The activation's scales. -/
def res2 (x : Sx3.Idx → EReal) : (⟨3, ![1, 384, 10]⟩ : Shape).Idx → EReal := fun j => scale (flat x) (j 1) (j 2)

/-- A matrix of 30336 columns given a leading axis of extent one is read at the other two coordinates. -/
theorem unflat_30336 (h : (⟨2, ![384, 30336]⟩ : Shape).ShapeCasts ⟨3, ![1, 384, 30336]⟩) (f : Fin 384 → Fin 30336 → EReal) :
    shapeCast ⟨3, ![1, 384, 30336]⟩ (fun i : (⟨2, ![384, 30336]⟩ : Shape).Idx => f (i 0) (i 1)) h = fun j => f (j 1) (j 2) := by
  funext j
  obtain ⟨a, r, k, rfl⟩ : ∃ (a : Fin 1) (r : Fin 384) (k : Fin 30336), j = ix3 a r k := ⟨j 0, j 1, j 2, eq_ix3 j⟩
  pointwise

/-- A matrix of 1280 columns given a leading axis of extent one is read at the other two coordinates. -/
theorem unflat_1280 (h : (⟨2, ![384, 1280]⟩ : Shape).ShapeCasts ⟨3, ![1, 384, 1280]⟩) (f : Fin 384 → Fin 1280 → EReal) :
    shapeCast ⟨3, ![1, 384, 1280]⟩ (fun i : (⟨2, ![384, 1280]⟩ : Shape).Idx => f (i 0) (i 1)) h = fun j => f (j 1) (j 2) := by
  funext j
  obtain ⟨a, r, k, rfl⟩ : ∃ (a : Fin 1) (r : Fin 384) (k : Fin 1280), j = ix3 a r k := ⟨j 0, j 1, j 2, eq_ix3 j⟩
  pointwise

/-- A matrix of 10 columns given a leading axis of extent one is read at the other two coordinates. -/
theorem unflat_10 (h : (⟨2, ![384, 10]⟩ : Shape).ShapeCasts ⟨3, ![1, 384, 10]⟩) (f : Fin 384 → Fin 10 → EReal) :
    shapeCast ⟨3, ![1, 384, 10]⟩ (fun i : (⟨2, ![384, 10]⟩ : Shape).Idx => f (i 0) (i 1)) h = fun j => f (j 1) (j 2) := by
  funext j
  obtain ⟨a, r, k, rfl⟩ : ∃ (a : Fin 1) (r : Fin 384) (k : Fin 10), j = ix3 a r k := ⟨j 0, j 1, j 2, eq_ix3 j⟩
  pointwise

end Cert.Spec

end
-- ==== Proof.KernelResult.lean ====
module

public import proofs.«01_k».proof.Proof.Arrays
public import proofs.«01_k».proof.Proof.Results

@[expose] public section

set_option maxRecDepth 16384

noncomputable section

namespace Cert.KernelIdeal.Track

open Cert.KernelIdeal Cert.KernelIdeal.Gen
open Cert.KernelIdeal.Proof hiding frame
open Idealize.ShloMosaic Idealize.ShloMosaic.TcCoe
open Idealize.ShloMosaic.Pipeline (Dat Cfg Window)

variable (m : (ℓ : Loc nD τ sig) → Buf (Elt Ideal) ℓ) (ρ : Dev nD → PrngReg)

/-! # What a run of the kernel leaves in its results -/

/-- The first result is the product's array with a leading axis. -/
theorem tail_v2 (c : Dev nD) : (Pipeline.afterTail₀ cfgs (vdats m) 0 (V0 m) [hostOps1] c main_v2 : S1x384x30336.Idx → EReal)
    = shapeCast S1x384x30336 ((vdats m 0 c).arrAt 3 cfg0.N : S384x30336.Idx → EReal) shapeCasts_S384x30336_S1x384x30336 := by
  have h := Pipeline.withArrays_arr spec0 (by decide) c (V0 m c) (fun w => (vdats m 0 c).arrAt w cfg0.N) 3
  rw [← h]
  rfl

/-- The second result is the codes' array with a leading axis. -/
theorem tail_v3 (c : Dev nD) : (Pipeline.afterTail₀ cfgs (vdats m) 0 (V0 m) [hostOps1] c main_v3 : S1x384x1280.Idx → EReal)
    = shapeCast S1x384x1280 ((vdats m 0 c).arrAt 4 cfg0.N : S384x1280.Idx → EReal) shapeCasts_S384x1280_S1x384x1280 := by
  have h := Pipeline.withArrays_arr spec0 (by decide) c (V0 m c) (fun w => (vdats m 0 c).arrAt w cfg0.N) 4
  rw [← h]
  rfl

/-- The third result is the scales' array with a leading axis. -/
theorem tail_v4 (c : Dev nD) : (Pipeline.afterTail₀ cfgs (vdats m) 0 (V0 m) [hostOps1] c main_v4 : S1x384x10.Idx → EReal)
    = shapeCast S1x384x10 ((vdats m 0 c).arrAt 5 cfg0.N : S384x10.Idx → EReal) shapeCasts_S384x10_S1x384x10 := by
  have h := Pipeline.withArrays_arr spec0 (by decide) c (V0 m c) (fun w => (vdats m 0 c).arrAt w cfg0.N) 5
  rw [← h]
  rfl

/-- The activation block is the argument without its first axis. -/
theorem xblk_eq (c : Dev nD) : xblk m c = Spec.flat (x3 m c) := by
  funext i
  rw [eq_ix2 (n0 := 384) (n1 := 1280) i]
  exact xblk_apply m c _ _

/-- Every run ends, the arguments as launched, the results at the specification's values: for a fit
    activation and scale bytes strictly between the least and the greatest. -/
theorem run_result (hx : ∀ c, Fit (Spec.flat (x3 m c))) (hs : ∀ c i, 1 ≤ (sarr m c i).toNat ∧ (sarr m c i).toNat ≤ 254) :
    θ_run defs (onTc (τ := τ) (main (F := Ideal))) ⟨m, fun _ => 0, ρ⟩ (fun r => ∀ c : Dev nD,
      r.2.mem ((c.tc : Thread nD τ).loc main_v2) = Spec.res0 (x3 m c) (m ((c.tc : Thread nD τ).loc main_arg1)) (m ((c.tc : Thread nD τ).loc main_arg2))
      ∧ r.2.mem ((c.tc : Thread nD τ).loc main_v3) = Spec.res1 (x3 m c)
      ∧ r.2.mem ((c.tc : Thread nD τ).loc main_v4) = Spec.res2 (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (vrun m ρ (hloc m))
  have hx' : Fit (xblk m c) := by rw [xblk_eq]; exact hx c
  refine ⟨((h c).2 main_v2 (Pipeline.mem_restRefs_of main_v2 (by decide) (by decide))).trans ?_,
    ((h c).2 main_v3 (Pipeline.mem_restRefs_of main_v3 (by decide) (by decide))).trans ?_,
    ((h c).2 main_v4 (Pipeline.mem_restRefs_of main_v4 (by decide) (by decide))).trans ?_,
    ((h c).2 main_arg0 (Pipeline.mem_restRefs_of main_arg0 (by decide) (by decide))).trans (W_main_arg0 m (vdats m) c),
    ((h c).1 1).trans (((vdats m 0 c).arrAt_in 1 rfl _).trans ((vA_eq m c 1).trans (V_main_arg1 m c))),
    ((h c).1 2).trans (((vdats m 0 c).arrAt_in 2 rfl _).trans ((vA_eq m c 2).trans (V_main_arg2 m c)))⟩
  · refine (tail_v2 m c).trans ?_
    rw [arr_3 m c hx' (hs c)]
    refine (Spec.unflat_30336 _ (fun r n => Spec.y (xblk m c) (warr m c) (sarr m c) r n)).trans ?_
    rw [xblk_eq]
    unfold warr sarr
    rw [V_main_arg1, V_main_arg2]
    rfl
  · refine (tail_v3 m c).trans ?_
    rw [arr_4 m c hx']
    refine (Spec.unflat_1280 _ (fun r n => Spec.code (xblk m c) r n)).trans ?_
    rw [xblk_eq]
    rfl
  · refine (tail_v4 m c).trans ?_
    rw [arr_5 m c hx']
    refine (Spec.unflat_10 _ (fun r n => Spec.scale (xblk m c) r n)).trans ?_
    rw [xblk_eq]
    rfl

end Cert.KernelIdeal.Track

end
-- ==== Proof.RefPay.lean ====
module

public import proofs.«01_k».proof.Proof.Spec
public import proofs.«01_k».proof.Proof.Gen.ReferenceIdeal.Skeleton

@[expose] public section

set_option maxRecDepth 16384

noncomputable section

namespace Cert.ReferenceIdeal.Proof

open Cert.ReferenceIdeal Cert.ReferenceIdeal.Gen
open Idealize.ShloMosaic

/-- The reference's exponent at a row and group. -/
theorem pay3_apply (x : Vec Ideal S384x1280 .bf16) (r : Fin 384) (g : Fin 10) :
    k0_pay3 (F := Ideal) x (ix2 r g) = Spec.qexp x r g := by
  pointwise [k0_pay3, k0_pay2, Spec.qexp, Spec.amax, Numbers.expo]
  rfl

/-- The reference's code at an element. -/
theorem pay4_apply (x : Vec Ideal S384x1280 .bf16) (r : Fin 384) (c : Fin 1280) :
    k0_pay4 (F := Ideal) x (ix2 r c) = Spec.code x r c := by
  pointwise [k0_pay4, k0_pay2, Spec.code]
  rw [pay3_apply]; rfl
/-- The reference's scale at a row and group. -/
theorem pay5_apply (x : Vec Ideal S384x1280 .bf16) (r : Fin 384) (c : Fin 10) :
    k0_pay5 (F := Ideal) x (ix2 r c) = Spec.scale x r c := by
  pointwise [k0_pay5, Spec.scale]
  rw [pay3_apply]; rfl
/-- The reference's dequantised activation at an element. -/
theorem pay6_apply (x : Vec Ideal S384x1280 .bf16) (r : Fin 384) (c : Fin 1280) :
    k0_pay6 (F := Ideal) x (ix2 r c) = Spec.xw x r c := by
  pointwise [k0_pay6, Spec.xw]
  rw [pay4_apply, pay5_apply]
/-- The reference's product at an element. -/
theorem pay1_apply (x : FVec Ideal S384x1280 .bf16) (s : Vec Ideal S30336x40 .i8) (w : Vec Ideal S30336x1280 .fp8e4m3) (r : Fin 384) (c : Fin 30336) :
    k0_pay1 (F := Ideal) x (k0_pay7 (F := Ideal) s) w (ix2 r c) = ∑ k : Fin 1280, x (ix2 r k) * Spec.ww w s c k := by
  pointwise [k0_pay1, k0_pay7, Spec.ww]
  rfl

end Cert.ReferenceIdeal.Proof

end
-- ==== Proof.RefResult.lean ====
module

public import proofs.«01_k».proof.Proof.Gen.ReferenceIdeal.Frame
public import proofs.«01_k».proof.Proof.RefPay
public import proofs.«01_k».proof.Proof.Results
public import Idealize.ShloMosaic.Lib.Pipeline.ValueKit

@[expose] public section

set_option maxRecDepth 16384

noncomputable section

namespace Cert.ReferenceIdeal.Proof

open Cert.ReferenceIdeal Cert.ReferenceIdeal.Gen
open Idealize.ShloMosaic Idealize.ShloMosaic.TcCoe
open Idealize.ShloMosaic.Pipeline (Dat Cfg Window)

variable (m : (ℓ : Loc nD τ sig) → Buf (Elt Ideal) ℓ) (ρ : Dev nD → PrngReg)

/-! # What a run of the reference leaves in its results -/

/-- Every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The activation argument on core `c`. -/
def x3 (c : Dev nD) : S1x384x1280.Idx → EReal := m ((c : Thread nD τ).loc main_arg0)
/-- The weight's codes, as the region finds them: as launched. -/
def warr (c : Dev nD) : Spec.Sw.Idx → EReal := V m c main_arg1
/-- The weight's scale bytes, likewise. -/
def sarr (c : Dev nD) : Spec.Ss.Idx → BitVec 8 := V m c main_arg2

/-- The array the activation window reads is the activation argument without its first axis. -/
theorem V_v0 (c : Dev nD) : (V m c main_v0 : S384x1280.Idx → EReal) = shapeCast S384x1280 (x3 m c) shapeCasts_S1x384x1280_S384x1280 := by
  rfl

/-- The activation block is the argument without its first axis. -/
theorem xblk_eq (c : Dev nD) (t : Fin cfg0.N) : (iblk m c 0 t : S384x1280.Idx → EReal) = Spec.flat (x3 m c) := by
  funext i
  obtain ⟨r, k, rfl⟩ : ∃ (r : Fin 384) (k : Fin 1280), i = ix2 r k := ⟨i 0, i 1, eq_ix2 (n0 := 384) (n1 := 1280) i⟩
  have e : (iblk m c 0 t : S384x1280.Idx → EReal) (ix2 r k) = (V m c main_v0 : S384x1280.Idx → EReal) (ix2 r k) := by
    blk_ext [iblk, (idx t).1]
  rw [e, V_v0]
  show _ = x3 m c (ix3 (0 : Fin 1) r k)
  generalize x3 m c = x
  pointwise

/-- The weight's block is the weight. -/
theorem wblk_eq (c : Dev nD) (t : Fin cfg0.N) : (iblk m c 1 t : Spec.Sw.Idx → EReal) = warr m c := by
  funext i
  obtain ⟨r, k, rfl⟩ : ∃ (r : Fin 30336) (k : Fin 1280), i = ix2 r k := ⟨i 0, i 1, eq_ix2 (n0 := 30336) (n1 := 1280) i⟩
  show _ = V m c main_arg1 (ix2 r k)
  blk_ext [iblk, (idx t).2.1]

/-- The scales' block is the scales. -/
theorem sblk_eq (c : Dev nD) (t : Fin cfg0.N) : (iblk m c 2 t : Spec.Ss.Idx → BitVec 8) = sarr m c := by
  funext i
  obtain ⟨r, k, rfl⟩ : ∃ (r : Fin 30336) (k : Fin 40), i = ix2 r k := ⟨i 0, i 1, eq_ix2 (n0 := 30336) (n1 := 40) i⟩
  show _ = V m c main_arg2 (ix2 r k)
  blk_ext [iblk, (idx t).2.2.1]

/-- The product's only block is its whole array. -/
theorem emb_3 (t : Fin cfg0.N) (A : S384x30336.Idx → EReal) (r : Fin 384) (k : Fin 30336) : A ((win0_3.blk t).view.emb (ix2 r k)) = A (ix2 r k) := by
  blk_ext [(idx t).2.2.2.1]

/-- The codes' only block is its whole array. -/
theorem emb_4 (t : Fin cfg0.N) (A : S384x1280.Idx → EReal) (r : Fin 384) (k : Fin 1280) : A ((win0_4.blk t).view.emb (ix2 r k)) = A (ix2 r k) := by
  blk_ext [(idx t).2.2.2.2.1]

/-- The scales' only block is its whole array. -/
theorem emb_5 (t : Fin cfg0.N) (A : S384x10.Idx → EReal) (r : Fin 384) (k : Fin 10) : A ((win0_5.blk t).view.emb (ix2 r k)) = A (ix2 r k) := by
  blk_ext [(idx t).2.2.2.2.2]

/-- The body's accesses start at the origin. -/
theorem zero2 : (![0, 0] : Fin 2 → ℕ) = fun _ => 0 := by
  funext a; fin_cases a <;> rfl

/-- The body's product at an element. -/
theorem out3_apply (x : Vec Ideal S384x1280 .bf16) (w : Vec Ideal S30336x1280 .fp8e4m3) (s : Vec Ideal S30336x40 .i8) (r : Fin 384) (n : Fin 30336) :
    out0_3 (F := Ideal) x w s (ix2 r n) = Spec.y x w s r n := by
  unfold out0_3
  rw [View.canon_unit_zero, View.ld_unit_zero, View.ld_unit_zero, View.ld_unit_zero, pay1_apply]
  · exact Finset.sum_congr rfl fun k _ => by rw [pay6_apply]
  all_goals exact zero2

/-- The body's code at an element. -/
theorem out4_apply (x : Vec Ideal S384x1280 .bf16) (w : Vec Ideal S30336x1280 .fp8e4m3) (s : Vec Ideal S30336x40 .i8) (r : Fin 384) (n : Fin 1280) :
    out0_4 (F := Ideal) x w s (ix2 r n) = Spec.code x r n := by
  unfold out0_4
  rw [View.canon_unit_zero, View.ld_unit_zero, pay4_apply]
  all_goals exact zero2

/-- The body's scale at a row and group. -/
theorem out5_apply (x : Vec Ideal S384x1280 .bf16) (w : Vec Ideal S30336x1280 .fp8e4m3) (s : Vec Ideal S30336x40 .i8) (r : Fin 384) (n : Fin 10) :
    out0_5 (F := Ideal) x w s (ix2 r n) = Spec.scale x r n := by
  unfold out0_5
  rw [View.canon_unit_zero, View.ld_unit_zero, pay5_apply]
  all_goals exact zero2

/-- The product's array. -/
theorem arr_3 (c : Dev nD) :
    ((dats m 0 c).arrAt 3 cfg0.N : S384x30336.Idx → EReal) = fun i => Spec.y (Spec.flat (x3 m c)) (warr m c) (sarr m c) (i 0) (i 1) := by
  refine (dats m 0 c).arrAt_eq_of_covers 3 _ (by decide +kernel) fun t hf y => ?_
  blk_simp
  rw [after0_3]
  obtain ⟨r, k, rfl⟩ : ∃ (r : Fin 384) (k : Fin 30336), y = ix2 r k := ⟨y 0, y 1, eq_ix2 (n0 := 384) (n1 := 30336) y⟩
  refine (out3_apply _ _ _ r k).trans ?_
  rw [xblk_eq, wblk_eq, sblk_eq]
  exact (emb_3 t (fun i => Spec.y (Spec.flat (x3 m c)) (warr m c) (sarr m c) (i 0) (i 1)) r k).symm

/-- The codes' array. -/
theorem arr_4 (c : Dev nD) :
    ((dats m 0 c).arrAt 4 cfg0.N : S384x1280.Idx → EReal) = fun i => Spec.code (Spec.flat (x3 m c)) (i 0) (i 1) := by
  refine (dats m 0 c).arrAt_eq_of_covers 4 _ (by decide +kernel) fun t hf y => ?_
  blk_simp
  rw [after0_4]
  obtain ⟨r, k, rfl⟩ : ∃ (r : Fin 384) (k : Fin 1280), y = ix2 r k := ⟨y 0, y 1, eq_ix2 (n0 := 384) (n1 := 1280) y⟩
  refine (out4_apply _ _ _ r k).trans ?_
  rw [xblk_eq]
  exact (emb_4 t (fun i => Spec.code (Spec.flat (x3 m c)) (i 0) (i 1)) r k).symm

/-- The scales' array. -/
theorem arr_5 (c : Dev nD) :
    ((dats m 0 c).arrAt 5 cfg0.N : S384x10.Idx → EReal) = fun i => Spec.scale (Spec.flat (x3 m c)) (i 0) (i 1) := by
  refine (dats m 0 c).arrAt_eq_of_covers 5 _ (by decide +kernel) fun t hf y => ?_
  blk_simp
  rw [after0_5]
  obtain ⟨r, k, rfl⟩ : ∃ (r : Fin 384) (k : Fin 10), y = ix2 r k := ⟨y 0, y 1, eq_ix2 (n0 := 384) (n1 := 10) y⟩
  refine (out5_apply _ _ _ r k).trans ?_
  rw [xblk_eq]
  exact (emb_5 t (fun i => Spec.scale (Spec.flat (x3 m c)) (i 0) (i 1)) r k).symm

/-- The first result is the product's array with a leading axis. -/
theorem tail_v2 (c : Dev nD) : (Pipeline.afterTail₀ cfgs (dats m) 0 (V0 m) [hostOps1] c main_v2 : S1x384x30336.Idx → EReal)
    = shapeCast S1x384x30336 ((dats m 0 c).arrAt 3 cfg0.N : S384x30336.Idx → EReal) shapeCasts_S384x30336_S1x384x30336 := by
  have h := Pipeline.withArrays_arr spec0 (by decide) c (V0 m c) (fun w => (dats m 0 c).arrAt w cfg0.N) 3
  rw [← h]
  rfl

/-- The second result is the codes' array with a leading axis. -/
theorem tail_v3 (c : Dev nD) : (Pipeline.afterTail₀ cfgs (dats m) 0 (V0 m) [hostOps1] c main_v3 : S1x384x1280.Idx → EReal)
    = shapeCast S1x384x1280 ((dats m 0 c).arrAt 4 cfg0.N : S384x1280.Idx → EReal) shapeCasts_S384x1280_S1x384x1280 := by
  have h := Pipeline.withArrays_arr spec0 (by decide) c (V0 m c) (fun w => (dats m 0 c).arrAt w cfg0.N) 4
  rw [← h]
  rfl

/-- The third result is the scales' array with a leading axis. -/
theorem tail_v4 (c : Dev nD) : (Pipeline.afterTail₀ cfgs (dats m) 0 (V0 m) [hostOps1] c main_v4 : S1x384x10.Idx → EReal)
    = shapeCast S1x384x10 ((dats m 0 c).arrAt 5 cfg0.N : S384x10.Idx → EReal) shapeCasts_S384x10_S1x384x10 := by
  have h := Pipeline.withArrays_arr spec0 (by decide) c (V0 m c) (fun w => (dats m 0 c).arrAt w cfg0.N) 5
  rw [← h]
  rfl

/-- Every run ends, the arguments as launched, the results at the specification's values. -/
theorem run_result : θ_run defs (onTc (τ := τ) (main (F := Ideal))) ⟨m, fun _ => 0, ρ⟩ (fun r => ∀ c : Dev nD,
      r.2.mem ((c.tc : Thread nD τ).loc main_v2) = Spec.res0 (x3 m c) (m ((c.tc : Thread nD τ).loc main_arg1)) (m ((c.tc : Thread nD τ).loc main_arg2))
      ∧ r.2.mem ((c.tc : Thread nD τ).loc main_v3) = Spec.res1 (x3 m c)
      ∧ r.2.mem ((c.tc : Thread nD τ).loc main_v4) = Spec.res2 (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  refine ⟨((h c).2 main_v2 (Pipeline.mem_restRefs_of main_v2 (by decide) (by decide))).trans ?_,
    ((h c).2 main_v3 (Pipeline.mem_restRefs_of main_v3 (by decide) (by decide))).trans ?_,
    ((h c).2 main_v4 (Pipeline.mem_restRefs_of main_v4 (by decide) (by decide))).trans ?_,
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩
  · refine (tail_v2 m c).trans ?_
    rw [arr_3 m c]
    refine (Spec.unflat_30336 _ (fun r n => Spec.y (Spec.flat (x3 m c)) (warr m c) (sarr m c) r n)).trans ?_
    unfold warr sarr
    rw [V_main_arg1, V_main_arg2]
    rfl
  · refine (tail_v3 m c).trans ?_
    rw [arr_4 m c]
    exact Spec.unflat_1280 _ (fun r n => Spec.code (Spec.flat (x3 m c)) r n)
  · refine (tail_v4 m c).trans ?_
    rw [arr_5 m c]
    exact Spec.unflat_10 _ (fun r n => Spec.scale (Spec.flat (x3 m c)) r n)

end Cert.ReferenceIdeal.Proof

end
-- ==== Proof.Algebraic.lean ====
module

public import proofs.«01_k».proof.Defs
public import proofs.«01_k».proof.Proof.Gen.Pre_tame
public import proofs.«01_k».proof.Proof.KernelResult
public import proofs.«01_k».proof.Proof.RefResult

@[expose] public section

set_option maxRecDepth 16384

noncomputable section

namespace Cert.Proof

open Idealize.ShloMosaic Idealize.SL.Sem

/-! # The kernel's results are the reference's -/

/-- The precondition's first part: an activation without infinities. -/
theorem pre_tame_x (x : Spec.Sx3.Idx → EReal) (w : Spec.Sw.Idx → EReal) (s : Spec.Ss.Idx → BitVec 8)
    (h : (Cert.Pre_tame.fn (F := Ideal) x w s).1 = fun _ => 1#1) : Cert.KernelIdeal.Proof.Tame x := by
  intro i
  have hi := congrFun h i
  dsimp only [Cert.Pre_tame.fn, Cert.Pre_tame.fn_part1] at hi
  pointwise at hi
  by_contra hn
  have hi' : BitVec.ofBool (decide (max (x i) (-x i) ≤ Ideal.ofBits .bf16 0x7F7F#16)) = 1#1 := hi
  rw [decide_eq_false hn] at hi'
  exact absurd hi' (by decide)

/-- Its second part: in every group, a greatest magnitude that is zero or not too small for the quantiser. -/
theorem pre_tame_g (x : Spec.Sx3.Idx → EReal) (w : Spec.Sw.Idx → EReal) (s : Spec.Ss.Idx → BitVec 8)
    (h : (Cert.Pre_tame.fn (F := Ideal) x w s).2.1 = fun _ => 1#1) (r : Fin 384) (g : Fin 10) : Numbers.Normal (Spec.amax (Spec.flat x) r g) := by
  have hi := congrFun h (ix2 r g)
  dsimp only [Cert.Pre_tame.fn, Cert.Pre_tame.fn_part1] at hi
  pointwise at hi
  have hi' : IntOp.ori (BitVec.ofBool (decide (Spec.amax (Spec.flat x) r g = 0)))
      (BitVec.ofBool (decide (Ideal.ofBits .f32 0x00800000#32 ≤ Spec.amax (Spec.flat x) r g * Ideal.ofBits .f32 0x3B124925#32))) = 1#1 := hi
  unfold Numbers.Normal
  by_contra hn
  rw [not_or] at hn
  rw [decide_eq_false hn.1, decide_eq_false hn.2] at hi'
  exact absurd hi' (by decide)

/-- Its third part: scale bytes from 1 to 254. -/
theorem pre_tame_s (x : Spec.Sx3.Idx → EReal) (w : Spec.Sw.Idx → EReal) (s : Spec.Ss.Idx → BitVec 8)
    (h : (Cert.Pre_tame.fn (F := Ideal) x w s).2.2 = fun _ => 1#1) (i : Spec.Ss.Idx) : 1 ≤ (s i).toNat ∧ (s i).toNat ≤ 254 := by
  have hi := congrFun h i
  dsimp only [Cert.Pre_tame.fn, Cert.Pre_tame.fn_part1] at hi
  pointwise at hi
  generalize s i = b at hi ⊢
  revert b
  decide +kernel

/-- From an activation without infinities or too small a group, and scale bytes from 1 to 254, the kernel and the reference end with the
    same product, codes and scales. -/
theorem algebraic : Cert.algebraic_KernelIdeal_ReferenceIdeal_pre_tame := by
  intro m g m' g' hpre hargs
  refine ⟨fun c => Spec.res0 (m (c.tc.loc Cert.KernelIdeal.main_arg0)) (m (c.tc.loc Cert.KernelIdeal.main_arg1)) (m (c.tc.loc Cert.KernelIdeal.main_arg2)),
    fun c => Spec.res1 (m (c.tc.loc Cert.KernelIdeal.main_arg0)), fun c => Spec.res2 (m (c.tc.loc Cert.KernelIdeal.main_arg0)), ?_, ?_⟩
  · refine Cert.KernelIdeal.Track.run_result m g (fun c => ⟨fun i => pre_tame_x _ _ _ (hpre c).1 _, fun r k => pre_tame_g _ _ _ (hpre c).2.1 r k⟩) (fun c i => ?_)
    unfold Cert.KernelIdeal.Track.sarr
    rw [Cert.KernelIdeal.Gen.V_main_arg2]
    exact pre_tame_s _ _ _ (hpre c).2.2 i
  · refine (θ_run Cert.ReferenceIdeal.defs _ _).mono (fun r h c => ?_) (Cert.ReferenceIdeal.Proof.run_result m' g')
    obtain ⟨h0, h1, h2, ha⟩ := h c
    obtain ⟨e0, e1, e2⟩ := hargs c
    refine ⟨h0.trans ?_, h1.trans ?_, h2.trans ?_, ha⟩
    · unfold Cert.ReferenceIdeal.Proof.x3
      rw [e0, e1, e2]
    · unfold Cert.ReferenceIdeal.Proof.x3
      rw [e0]
    · unfold Cert.ReferenceIdeal.Proof.x3
      rw [e0]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame
public import proofs.«01_k».proof.Proof.KernelFrames
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three programs' frames, the ideal kernel as the kernel's own text, and the kernel's three results as the reference's. -/
theorem claim : Cert.Claim := ⟨Cert.Kernel.Gen.facts, Cert.KernelIdeal.Gen.facts, Cert.ReferenceIdeal.Gen.facts, Cert.Pre_tame.Gen.facts,
  fun m g _ => Cert.Kernel.Proof.frame m g, fun m g _ => Cert.KernelIdeal.Proof.frame m g, fun m g _ => Cert.KernelIdeal.Proof.frame m g,
  fun m g _ => Cert.ReferenceIdeal.Gen.frame m g, fun m g _ => Cert.ReferenceIdeal.Gen.frame m g, trivial, Cert.Proof.algebraic⟩

end Cert.Proof

end
